-- ==== Defs.lean ====
def Pre_RefIdeal (m : (ℓ : Loc Cert.RefIdeal.nD Cert.RefIdeal.τ Cert.RefIdeal.sig) → Buf (Elt Ideal) ℓ) : Prop :=
  True

def Pre_RefIdeal_slots_in_range [hPre_slots_in_range : Cert.Pre_slots_in_range.Facts] (m : (ℓ : Loc Cert.RefIdeal.nD Cert.RefIdeal.τ Cert.RefIdeal.sig) → Buf (Elt Ideal) ℓ) : Prop :=
  ∀ c : Dev Cert.RefIdeal.nD,
    (Cert.Pre_slots_in_range.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7))
      ∧ r.2.sem = fun _ => 0)

def quiescent_RefIdeal_pre_slots_in_range [hRefIdeal : Cert.RefIdeal.Facts] [hPre_slots_in_range : Cert.Pre_slots_in_range.Facts] : Prop :=
  ∀ (m : (ℓ : Loc Cert.RefIdeal.nD Cert.RefIdeal.τ Cert.RefIdeal.sig) → Buf (Elt Ideal) ℓ) (g : Dev Cert.RefIdeal.nD → PrngReg), Pre_RefIdeal_slots_in_range m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def algebraic_KernelIdeal_RefIdeal [hKernelIdeal : Cert.KernelIdeal.Facts] [hRefIdeal : Cert.RefIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v52_0) = v0 c
          ∧ r.2.mem ((c.tc : Thread Cert.RefIdeal.nD Cert.RefIdeal.τ).loc Cert.RefIdeal.main_v52_1) = v1 c
          ∧ r.2.mem ((c.tc : Thread Cert.RefIdeal.nD Cert.RefIdeal.τ).loc Cert.RefIdeal.main_v52_2) = v2 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7))

def preserves_Kernel_KernelIdeal : Prop :=
  True

def Claim : Prop :=
  ∃ (hRefIdeal : Cert.RefIdeal.Facts) (hKernelIdeal : Cert.KernelIdeal.Facts) (hKernel : Cert.Kernel.Facts) (hPre_slots_in_range : Cert.Pre_slots_in_range.Facts),
    quiescent_RefIdeal (hRefIdeal := hRefIdeal)
    ∧ quiescent_RefIdeal_pre_slots_in_range (hRefIdeal := hRefIdeal) (hPre_slots_in_range := hPre_slots_in_range)
    ∧ quiescent_KernelIdeal (hKernelIdeal := hKernelIdeal) (hPre_slots_in_range := hPre_slots_in_range)
    ∧ quiescent_Kernel (hKernel := hKernel) (hPre_slots_in_range := hPre_slots_in_range)
    ∧ algebraic_KernelIdeal_RefIdeal (hKernelIdeal := hKernelIdeal) (hRefIdeal := hRefIdeal) (hPre_slots_in_range := hPre_slots_in_range)
    ∧ preserves_Kernel_KernelIdeal
-- ==== Pre_slots_in_range.lean ====
abbrev S144x1x6x256 : Shape := ⟨4, ![144, 1, 6, 256]⟩
abbrev S144x1x6x512 : Shape := ⟨4, ![144, 1, 6, 512]⟩
abbrev S144x1x6 : Shape := ⟨3, ![144, 1, 6]⟩
abbrev S180x6x256x512 : Shape := ⟨4, ![180, 6, 256, 512]⟩
abbrev S180x6x256 : Shape := ⟨3, ![180, 6, 256]⟩
abbrev S144 : Shape := ⟨1, ![144]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : FVec F S144x1x6x256 .bf16) (main_arg1 : FVec F S144x1x6x256 .bf16) (main_arg2 : FVec F S144x1x6x512 .bf16) (main_arg3 : FVec F S144x1x6 .f32) (main_arg4 : FVec F S144x1x6 .f32) (main_arg5 : FVec F S180x6x256x512 .fp8e4m3) (main_arg6 : FVec F S180x6x256 .f32) (main_arg7 : IVec S144 32) : IVec S_ 1 :=
  let main_c : IVec S_ 32 := constantI S_ 32 0#32
  let main_v0 : IVec S144 32 := broadcastInDim S144 ![] bcast_S_S144 main_c
  let main_v1 : IVec S144 1 := cmpi .sge main_arg7 main_v0
  let main_c_0 : IVec S_ 32 := constantI S_ 32 180#32
  let main_v2 : IVec S144 32 := broadcastInDim S144 ![] bcast_S_S144 main_c_0
  let main_v3 : IVec S144 1 := cmpi .slt main_arg7 main_v2
  let main_v4 : IVec S144 1 := andi main_v1 main_v3
  let main_c_1 : IVec S_ 1 := constantI S_ 1 1#1
  let main_v5 : IVec S_ 1 := (fun x v => Host.reduce IntOp.andi x v reducesTo_S144_S_d0 h_S_) main_v4 main_c_1
  main_v5
-- ==== RefIdeal.lean ====
abbrev S144x1x6x256 : Shape := ⟨4, ![144, 1, 6, 256]⟩
abbrev S144x1x6x512 : Shape := ⟨4, ![144, 1, 6, 512]⟩
abbrev S144x1x6 : Shape := ⟨3, ![144, 1, 6]⟩
abbrev S180x6x256x512 : Shape := ⟨4, ![180, 6, 256, 512]⟩
abbrev S180x6x256 : Shape := ⟨3, ![180, 6, 256]⟩
abbrev S144 : Shape := ⟨1, ![144]⟩
abbrev S144x6x256 : Shape := ⟨3, ![144, 6, 256]⟩
abbrev S_ : Shape := ⟨0, ![]⟩
abbrev S144x6 : Shape := ⟨2, ![144, 6]⟩
abbrev S144x6x1 : Shape := ⟨3, ![144, 6, 1]⟩
abbrev S144x1 : Shape := ⟨2, ![144, 1]⟩
abbrev S144x6x256x512 : Shape := ⟨4, ![144, 6, 256, 512]⟩
abbrev S144x6x256x1 : Shape := ⟨4, ![144, 6, 256, 1]⟩
abbrev S144x6x512 : Shape := ⟨3, ![144, 6, 512]⟩
abbrev S144x6x1x1 : Shape := ⟨4, ![144, 6, 1, 1]⟩
abbrev S144x6x1x512 : Shape := ⟨4, ![144, 6, 1, 512]⟩

abbrev nBuf : Space → Nat
  | .hbm => 73
  | .vmem => 11
  | .smem => 0
  | _ => 0

abbrev bufTy : (tb : Table) → Fin (tcTables nBuf tb) → BufTy
  | .hbm, ⟨0, _⟩ => ⟨S144x1x6x256, .bf16⟩
  | .hbm, ⟨1, _⟩ => ⟨S144x1x6x256, .bf16⟩
  | .hbm, ⟨2, _⟩ => ⟨S144x1x6x512, .bf16⟩
  | .hbm, ⟨3, _⟩ => ⟨S144x1x6, .f32⟩
  | .hbm, ⟨4, _⟩ => ⟨S144x1x6, .f32⟩
  | .hbm, ⟨5, _⟩ => ⟨S180x6x256x512, .fp8e4m3⟩
  | .hbm, ⟨6, _⟩ => ⟨S180x6x256, .f32⟩
  | .hbm, ⟨7, _⟩ => ⟨S144, .i32⟩
  | .hbm, ⟨8, _⟩ => ⟨S144x6x256, .bf16⟩
  | .hbm, ⟨9, _⟩ => ⟨S144x6x256, .f32⟩
  | .hbm, ⟨10, _⟩ => ⟨S144x6x256, .f32⟩
  | .hbm, ⟨11, _⟩ => ⟨S_, .f32⟩
  | .hbm, ⟨12, _⟩ => ⟨S144x6, .f32⟩
  | .hbm, ⟨13, _⟩ => ⟨S144x6x1, .f32⟩
  | .hbm, ⟨14, _⟩ => ⟨S_, .f32⟩
  | .hbm, ⟨15, _⟩ => ⟨S144x6x1, .f32⟩
  | .hbm, ⟨16, _⟩ => ⟨S144x6x1, .f32⟩
  | .hbm, ⟨17, _⟩ => ⟨S144x6x1, .f32⟩
  | .hbm, ⟨18, _⟩ => ⟨S144x6x256, .f32⟩
  | .hbm, ⟨19, _⟩ => ⟨S144x6x256, .f32⟩
  | .hbm, ⟨20, _⟩ => ⟨S_, .f32⟩
  | .hbm, ⟨21, _⟩ => ⟨S144x6x256, .f32⟩
  | .hbm, ⟨22, _⟩ => ⟨S144x6x256, .f32⟩
  | .hbm, ⟨23, _⟩ => ⟨S144x6x256, .bf16⟩
  | .hbm, ⟨24, _⟩ => ⟨S144x6x256, .bf16⟩
  | .hbm, ⟨25, _⟩ => ⟨S144x6x256, .f32⟩
  | .hbm, ⟨26, _⟩ => ⟨S144x6x256, .f32⟩
  | .hbm, ⟨27, _⟩ => ⟨S_, .f32⟩
  | .hbm, ⟨28, _⟩ => ⟨S144x6, .f32⟩
  | .hbm, ⟨29, _⟩ => ⟨S144x6x1, .f32⟩
  | .hbm, ⟨30, _⟩ => ⟨S_, .f32⟩
  | .hbm, ⟨31, _⟩ => ⟨S144x6x1, .f32⟩
  | .hbm, ⟨32, _⟩ => ⟨S144x6x1, .f32⟩
  | .hbm, ⟨33, _⟩ => ⟨S144x6x1, .f32⟩
  | .hbm, ⟨34, _⟩ => ⟨S144x6x256, .f32⟩
  | .hbm, ⟨35, _⟩ => ⟨S144x6x256, .f32⟩
  | .hbm, ⟨36, _⟩ => ⟨S144x6x256, .bf16⟩
  | .hbm, ⟨37, _⟩ => ⟨S144x6x256, .f32⟩
  | .hbm, ⟨38, _⟩ => ⟨S144x6x256, .f32⟩
  | .hbm, ⟨39, _⟩ => ⟨S144x6x256, .f32⟩
  | .hbm, ⟨40, _⟩ => ⟨S_, .f32⟩
  | .hbm, ⟨41, _⟩ => ⟨S144x6, .f32⟩
  | .hbm, ⟨42, _⟩ => ⟨S_, .i32⟩
  | .hbm, ⟨43, _⟩ => ⟨S144, .i32⟩
  | .hbm, ⟨44, _⟩ => ⟨S144, .i1⟩
  | .hbm, ⟨45, _⟩ => ⟨S_, .i32⟩
  | .hbm, ⟨46, _⟩ => ⟨S144, .i32⟩
  | .hbm, ⟨47, _⟩ => ⟨S144, .i32⟩
  | .hbm, ⟨48, _⟩ => ⟨S144, .i32⟩
  | .hbm, ⟨49, _⟩ => ⟨S144x1, .i32⟩
  | .hbm, ⟨50, _⟩ => ⟨S144x6x256x512, .fp8e4m3⟩
  | .hbm, ⟨51, _⟩ => ⟨S_, .i32⟩
  | .hbm, ⟨52, _⟩ => ⟨S144, .i32⟩
  | .hbm, ⟨53, _⟩ => ⟨S144, .i1⟩
  | .hbm, ⟨54, _⟩ => ⟨S_, .i32⟩
  | .hbm, ⟨55, _⟩ => ⟨S144, .i32⟩
  | .hbm, ⟨56, _⟩ => ⟨S144, .i32⟩
  | .hbm, ⟨57, _⟩ => ⟨S144, .i32⟩
  | .hbm, ⟨58, _⟩ => ⟨S144x1, .i32⟩
  | .hbm, ⟨59, _⟩ => ⟨S144x6x256, .f32⟩
  | .hbm, ⟨60, _⟩ => ⟨S144x6, .f32⟩
  | .hbm, ⟨61, _⟩ => ⟨S144x6, .f32⟩
  | .hbm, ⟨62, _⟩ => ⟨S144x6x256x1, .f32⟩
  | .hbm, ⟨63, _⟩ => ⟨S144x6x256x1, .bf16⟩
  | .hbm, ⟨64, _⟩ => ⟨S144x6x256x1, .bf16⟩
  | .hbm, ⟨65, _⟩ => ⟨S144x6x1, .f32⟩
  | .hbm, ⟨66, _⟩ => ⟨S144x6x512, .bf16⟩
  | .hbm, ⟨67, _⟩ => ⟨S144x6x1, .f32⟩
  | .hbm, ⟨68, _⟩ => ⟨S144x6, .f32⟩
  | .hbm, ⟨69, _⟩ => ⟨S144x6x1, .f32⟩
  | .hbm, ⟨70, _⟩ => ⟨S144x1x6x512, .bf16⟩
  | .hbm, ⟨71, _⟩ => ⟨S144x6x256x512, .fp8e4m3⟩
  | .hbm, ⟨72, _⟩ => ⟨S144x6x256, .f32⟩
  | .local _ .vmem, ⟨0, _⟩ => ⟨S144x6x256x512, .fp8e4m3⟩
  | .local _ .vmem, ⟨1, _⟩ => ⟨S144x6x256x1, .f32⟩
  | .local _ .vmem, ⟨2, _⟩ => ⟨S144x6x256x1, .bf16⟩
  | .local _ .vmem, ⟨3, _⟩ => ⟨S144x6x256x1, .bf16⟩
  | .local _ .vmem, ⟨4, _⟩ => ⟨S144x6x1, .f32⟩
  | .local _ .vmem, ⟨5, _⟩ => ⟨S144x6x512, .bf16⟩
  | .local _ .vmem, ⟨6, _⟩ => ⟨S144x6x1, .f32⟩
  | .local _ .vmem, ⟨7, _⟩ => ⟨S144x6x1, .f32⟩
  | .local _ .vmem, ⟨8, _⟩ => ⟨S144x1x6x512, .bf16⟩
  | .local _ .vmem, ⟨9, _⟩ => ⟨S144x6x256x512, .fp8e4m3⟩
  | .local _ .vmem, ⟨10, _⟩ => ⟨S144x6x256, .f32⟩
  | _, _ => ⟨S144x1x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52_0 : Ref sig .tc := ⟨.hbm, 70, rfl⟩
abbrev main_v52_1 : Ref sig .tc := ⟨.hbm, 71, rfl⟩
abbrev main_v52_2 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S144x6x256x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x6x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x6x256x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x6x256x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x6x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x6x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x6x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S144x6x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S144x1x6x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S144x6x256x512 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S144x6x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Kernel.lean ====
abbrev S144x1x6x256 : Shape := ⟨4, ![144, 1, 6, 256]⟩
abbrev S144x1x6x512 : Shape := ⟨4, ![144, 1, 6, 512]⟩
abbrev S144x1x6 : Shape := ⟨3, ![144, 1, 6]⟩
abbrev S180x6x256x512 : Shape := ⟨4, ![180, 6, 256, 512]⟩
abbrev S180x6x256 : Shape := ⟨3, ![180, 6, 256]⟩
abbrev S144 : Shape := ⟨1, ![144]⟩
abbrev S144x6x256x512 : Shape := ⟨4, ![144, 6, 256, 512]⟩
abbrev S144x6x256 : Shape := ⟨3, ![144, 6, 256]⟩
abbrev S1x1x6x256 : Shape := ⟨4, ![1, 1, 6, 256]⟩
abbrev S1x1x6x512 : Shape := ⟨4, ![1, 1, 6, 512]⟩
abbrev S1x1x6 : Shape := ⟨3, ![1, 1, 6]⟩
abbrev S1x6x256x512 : Shape := ⟨4, ![1, 6, 256, 512]⟩
abbrev S1 : Shape := ⟨1, ![1]⟩
abbrev S1x6x256 : Shape := ⟨3, ![1, 6, 256]⟩
abbrev S6x256 : Shape := ⟨2, ![6, 256]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S6x512 : Shape := ⟨2, ![6, 512]⟩
abbrev S256x6 : Shape := ⟨2, ![256, 6]⟩
abbrev S1x1x256x512 : Shape := ⟨4, ![1, 1, 256, 512]⟩
abbrev S256x512 : Shape := ⟨2, ![256, 512]⟩
abbrev S1x256 : Shape := ⟨2, ![1, 256]⟩
abbrev S2x256 : Shape := ⟨2, ![2, 256]⟩
abbrev S2x512 : Shape := ⟨2, ![2, 512]⟩
abbrev S1x1 : Shape := ⟨2, ![1, 1]⟩
abbrev S1x512 : Shape := ⟨2, ![1, 512]⟩
abbrev S1x1x1x512 : Shape := ⟨4, ![1, 1, 1, 512]⟩
abbrev S1x1x2x512 : Shape := ⟨4, ![1, 1, 2, 512]⟩
abbrev S32x1 : Shape := ⟨2, ![32, 1]⟩
abbrev S1x1x32x512 : Shape := ⟨4, ![1, 1, 32, 512]⟩
abbrev S32x512 : Shape := ⟨2, ![32, 512]⟩
abbrev S32 : Shape := ⟨1, ![32]⟩
abbrev S1x252 : Shape := ⟨2, ![1, 252]⟩
abbrev S32x252 : Shape := ⟨2, ![32, 252]⟩
abbrev S256x1 : Shape := ⟨2, ![256, 1]⟩
abbrev S1x1x256 : Shape := ⟨3, ![1, 1, 256]⟩

abbrev nBuf : Space → Nat
  | .hbm => 10
  | .vmem => 20
  | .smem => 1
  | _ => 0

abbrev bufTy : (tb : Table) → Fin (tcTables nBuf tb) → BufTy
  | .hbm, ⟨0, _⟩ => ⟨S144x1x6x256, .bf16⟩
  | .hbm, ⟨1, _⟩ => ⟨S144x1x6x256, .bf16⟩
  | .hbm, ⟨2, _⟩ => ⟨S144x1x6x512, .bf16⟩
  | .hbm, ⟨3, _⟩ => ⟨S144x1x6, .f32⟩
  | .hbm, ⟨4, _⟩ => ⟨S144x1x6, .f32⟩
  | .hbm, ⟨5, _⟩ => ⟨S180x6x256x512, .fp8e4m3⟩
  | .hbm, ⟨6, _⟩ => ⟨S180x6x256, .f32⟩
  | .hbm, ⟨7, _⟩ => ⟨S144x1x6x512, .bf16⟩
  | .hbm, ⟨8, _⟩ => ⟨S144x6x256x512, .fp8e4m3⟩
  | .hbm, ⟨9, _⟩ => ⟨S144x6x256, .f32⟩
  | .local _ .vmem, ⟨0, _⟩ => ⟨S1x1x6x256, .bf16⟩
  | .local _ .vmem, ⟨1, _⟩ => ⟨S1x1x6x256, .bf16⟩
  | .local _ .vmem, ⟨2, _⟩ => ⟨S1x1x6x256, .bf16⟩
  | .local _ .vmem, ⟨3, _⟩ => ⟨S1x1x6x256, .bf16⟩
  | .local _ .vmem, ⟨4, _⟩ => ⟨S1x1x6x512, .bf16⟩
  | .local _ .vmem, ⟨5, _⟩ => ⟨S1x1x6x512, .bf16⟩
  | .local _ .vmem, ⟨6, _⟩ => ⟨S1x1x6, .f32⟩
  | .local _ .vmem, ⟨7, _⟩ => ⟨S1x1x6, .f32⟩
  | .local _ .vmem, ⟨8, _⟩ => ⟨S1x1x6, .f32⟩
  | .local _ .vmem, ⟨9, _⟩ => ⟨S1x1x6, .f32⟩
  | .local _ .vmem, ⟨10, _⟩ => ⟨S1x6x256x512, .fp8e4m3⟩
  | .local _ .vmem, ⟨11, _⟩ => ⟨S1x6x256x512, .fp8e4m3⟩
  | .local _ .vmem, ⟨12, _⟩ => ⟨S1x6x256, .f32⟩
  | .local _ .vmem, ⟨13, _⟩ => ⟨S1x6x256, .f32⟩
  | .local _ .vmem, ⟨14, _⟩ => ⟨S1x1x6x512, .bf16⟩
  | .local _ .vmem, ⟨15, _⟩ => ⟨S1x1x6x512, .bf16⟩
  | .local _ .vmem, ⟨16, _⟩ => ⟨S1x6x256x512, .fp8e4m3⟩
  | .local _ .vmem, ⟨17, _⟩ => ⟨S1x6x256x512, .fp8e4m3⟩
  | .local _ .vmem, ⟨18, _⟩ => ⟨S1x6x256, .f32⟩
  | .local _ .vmem, ⟨19, _⟩ => ⟨S1x6x256, .f32⟩
  | .local _ .smem, ⟨0, _⟩ => ⟨S144, .i32⟩
  | _, _ => ⟨S144x1x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x6x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x256x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x256x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.Slots.lean ====
/- What the precondition `slots_in_range` says of the slot table: every word names one of the pool's 180 slots. -/
module

public import proofs.«01_k».proof.Defs
public import proofs.«01_k».proof.Proof.Gen.Pre_slots_in_range
public import Idealize.ShloMosaic.Lib.ReduceAll
public import Idealize.ShloMosaic.Lib.WordCmp

@[expose] public section

namespace Cert.Slots

open Idealize.ShloMosaic

/-- The predicate, all ones, word by word: each slot number, read as a natural number, is below 180. -/
theorem lt_of_pre {F : FTy → Type} [FloatOps F] (q k v g beta codes scales) (tbl : IVec Cert.Pre_slots_in_range.S144 32)
    (h : Cert.Pre_slots_in_range.fn (F := F) q k v g beta codes scales tbl = fun _ => 1#1) (x : Cert.Pre_slots_in_range.S144.Idx) :
    (tbl x).toNat < 180 := by
  have e := congrFun h (fun a => a.elim0)
  unfold Cert.Pre_slots_in_range.fn at e
  haveI : Subsingleton Cert.Pre_slots_in_range.S_.Idx := ⟨fun a b => funext fun i => i.elim0⟩
  have := Host.reduce_andi_all _ _ _ _ _ e x
  have h2 : IntOp.andi (IntOp.cmpi .sge (tbl x) 0#32) (IntOp.cmpi .slt (tbl x) 180#32) = 1#1 := this
  rw [WordCmp.andi_sge_zero_slt_ofNat (k := 180) (by decide)] at h2
  exact (WordCmp.ofBool_decide_eq_one_iff _).mp h2

end Cert.Slots
-- ==== Proof.Kernel.Points.lean ====
/- The windows' staging memrefs and the body at a grid point, and at which points the windows whose index map
   reads no table are fetched and written back. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
-- window 5: no schedule fact — its index map reads a prefetched table, so where it is fetched or written back depends on the tables' contents
-- window 6: no schedule fact — its index map reads a prefetched table, so where it is fetched or written back depends on the tables' contents
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gated_delta_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.Kernel.Gen

end
-- ==== Proof.Kernel.Runs.lean ====
/- The region-entry contents, the slot table, the windows' blocks, and the frame claim's post from a run's. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S144 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (by decide : main_arg7 ∈ Pipeline.restRefs sig spec0)).trans (V_main_arg7 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1x6x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x6x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x6x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x6 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x6 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x6x256x512 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x6x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x6x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x6x256x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x6x256 .f32 := spec0_9.stage ((cfgM m hO).slots t 9)
abbrev hs0_9 (hO : Ok m) (t : Fin (cfgM m hO).N) : (ms0_9 m hO t).IsWhole := hstage0_9 (((cfgM m hO).slots t 9).cast nbuf0_9)

end Cert.Kernel.Gen

end
-- ==== Proof.Kernel.Run.lean ====
/- The body's run from staged blocks at any grid point: the inputs come back as they were, each output at some contents. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1880000 in
/-- The body's triple: on whole staging memrefs — the inputs' at their contents,
    the FORGOTTEN outputs' (7, 8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S1x1x6x256 .bf16) (harg2 : arg2.IsWhole) (arg3 : Memref sig .tc .vmem S1x1x6x256 .bf16) (harg3 : arg3.IsWhole) (arg4 : Memref sig .tc .vmem S1x1x6x512 .bf16) (harg4 : arg4.IsWhole) (arg5 : Memref sig .tc .vmem S1x1x6 .f32) (harg5 : arg5.IsWhole) (arg6 : Memref sig .tc .vmem S1x1x6 .f32) (harg6 : arg6.IsWhole) (arg7 : Memref sig .tc .vmem S1x6x256x512 .fp8e4m3) (harg7 : arg7.IsWhole) (arg8 : Memref sig .tc .vmem S1x6x256 .f32) (harg8 : arg8.IsWhole) (arg9 : Memref sig .tc .vmem S1x1x6x512 .bf16) (harg9 : arg9.IsWhole) (arg10 : Memref sig .tc .vmem S1x6x256x512 .fp8e4m3) (harg10 : arg10.IsWhole) (arg11 : Memref sig .tc .vmem S1x6x256 .f32) (harg11 : arg11.IsWhole)
    (x0 : Vec F S1x1x6x256 .bf16) (x1 : Vec F S1x1x6x256 .bf16) (x2 : Vec F S1x1x6x512 .bf16) (x3 : Vec F S1x1x6 .f32) (x4 : Vec F S1x1x6 .f32) (x5 : Vec F S1x6x256x512 .fp8e4m3) (x6 : Vec F S1x6x256 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_gated_delta_decode i tbM0_0 htbM0_0 arg2 harg2 arg3 harg3 arg4 harg4 arg5 harg5 arg6 harg6 arg7 harg7 arg8 harg8 arg9 harg9 arg10 harg10 arg11 harg11) K := by
    intro E K
    simp only [cc0_gated_delta_decode_eq_skeleton]; unfold cc0_gated_delta_decode_skel
    simp only [k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexact HT0

end Cert.Kernel.Gen

end
-- ==== Proof.Kernel.Frame.lean ====
/- The frame: the pipeline's proof data with the three outputs left unnamed, the body obligation, the launch. -/
module

public import proofs.«01_k».proof.Proof.Kernel.Run
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel.Gen

end
-- ==== Proof.Kernel.Ok.lean ====
/- The pipeline's side condition of the slot table, from every slot number being below 180. -/
module

public import proofs.«01_k».proof.Proof.Kernel.Runs
public import proofs.«01_k».proof.Proof.Slots
public import Idealize.ShloMosaic.Lib.Affine

@[expose] public section

namespace Cert.Kernel.Gen

open Idealize.ShloMosaic Idealize.ShloMosaic.TcCoe Idealize.SL.Sem

variable {F : FTy → Type} [FloatOps F] (m : (ℓ : Loc nD τ sig) → Buf (Elt F) ℓ)

/-- The slot number that point `i` of the grid names. -/
abbrev slotAt (pf : pre0.Contents (Elt F)) (i : grid0.Coords) : BitVec 32 :=
  pf.at 0 (Rect.unit (s := S144) ![(Scalar.indexCast (BitVec.ofNat 32 (i 0).val)).toNat] S1.size (Gen.k0_off1_inb i)) Gen.numel1_S1

/-- With every slot number below 180, each window that reads the table has its block inside the pool. -/
theorem ok_of_slots (h : ∀ x : S144.Idx, ((tbl m 0 : S144.Idx → BitVec 32) x).toNat < 180) : Ok (F := F) m := by
  have hs : ∀ i, (slotAt (F := F) (tbl m) i).toNat < 180 := fun i => h _
  refine ⟨fun i => ⟨?_, .inr (Affine.block_words_dvd (of_decide_eq_true rfl) (by decide))⟩, fun i => ⟨?_, .inl rfl⟩⟩
  · have := hs i
    intro a
    match a with
    | ⟨0, _⟩ => show ((slotAt (F := F) (tbl m) i).toNat + 1) * 1 ≤ 180; omega
    | ⟨1, _⟩ => show (0 + 1) * 6 ≤ 6; omega
    | ⟨2, _⟩ => show (0 + 1) * 256 ≤ 256; omega
    | ⟨3, _⟩ => show (0 + 1) * 512 ≤ 512; omega
  · have := hs i
    intro a
    match a with
    | ⟨0, _⟩ => show ((slotAt (F := F) (tbl m) i).toNat + 1) * 1 ≤ 180; omega
    | ⟨1, _⟩ => show (0 + 1) * 6 ≤ 6; omega
    | ⟨2, _⟩ => show (0 + 1) * 256 ≤ 256; omega

end Cert.Kernel.Gen
-- ==== Proof.KernelIdeal.Points.lean ====
/- The windows' staging memrefs and the body at a grid point, and at which points the windows whose index map
   reads no table are fetched and written back. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
-- window 5: no schedule fact — its index map reads a prefetched table, so where it is fetched or written back depends on the tables' contents
-- window 6: no schedule fact — its index map reads a prefetched table, so where it is fetched or written back depends on the tables' contents
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gated_delta_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.KernelIdeal.Gen

end
-- ==== Proof.KernelIdeal.Runs.lean ====
/- The region-entry contents, the slot table, the windows' blocks, and the frame claim's post from a run's. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S144 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (by decide : main_arg7 ∈ Pipeline.restRefs sig spec0)).trans (V_main_arg7 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1x6x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x6x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x6x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x6 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x6 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x6x256x512 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x6x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x6x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x6x256x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x6x256 .f32 := spec0_9.stage ((cfgM m hO).slots t 9)
abbrev hs0_9 (hO : Ok m) (t : Fin (cfgM m hO).N) : (ms0_9 m hO t).IsWhole := hstage0_9 (((cfgM m hO).slots t 9).cast nbuf0_9)

end Cert.KernelIdeal.Gen

end
-- ==== Proof.KernelIdeal.Ok.lean ====
/- The pipeline's side condition of the slot table, from every slot number being below 180. -/
module

public import proofs.«01_k».proof.Proof.KernelIdeal.Runs
public import proofs.«01_k».proof.Proof.Slots
public import Idealize.ShloMosaic.Lib.Affine

@[expose] public section

namespace Cert.KernelIdeal.Gen

open Idealize.ShloMosaic Idealize.ShloMosaic.TcCoe Idealize.SL.Sem

variable {F : FTy → Type} [FloatOps F] (m : (ℓ : Loc nD τ sig) → Buf (Elt F) ℓ)

/-- The slot number that point `i` of the grid names. -/
abbrev slotAt (pf : pre0.Contents (Elt F)) (i : grid0.Coords) : BitVec 32 :=
  pf.at 0 (Rect.unit (s := S144) ![(Scalar.indexCast (BitVec.ofNat 32 (i 0).val)).toNat] S1.size (Gen.k0_off1_inb i)) Gen.numel1_S1

/-- With every slot number below 180, each window that reads the table has its block inside the pool. -/
theorem ok_of_slots (h : ∀ x : S144.Idx, ((tbl m 0 : S144.Idx → BitVec 32) x).toNat < 180) : Ok (F := F) m := by
  have hs : ∀ i, (slotAt (F := F) (tbl m) i).toNat < 180 := fun i => h _
  refine ⟨fun i => ⟨?_, .inr (Affine.block_words_dvd (of_decide_eq_true rfl) (by decide))⟩, fun i => ⟨?_, .inl rfl⟩⟩
  · have := hs i
    intro a
    match a with
    | ⟨0, _⟩ => show ((slotAt (F := F) (tbl m) i).toNat + 1) * 1 ≤ 180; omega
    | ⟨1, _⟩ => show (0 + 1) * 6 ≤ 6; omega
    | ⟨2, _⟩ => show (0 + 1) * 256 ≤ 256; omega
    | ⟨3, _⟩ => show (0 + 1) * 512 ≤ 512; omega
  · have := hs i
    intro a
    match a with
    | ⟨0, _⟩ => show ((slotAt (F := F) (tbl m) i).toNat + 1) * 1 ≤ 180; omega
    | ⟨1, _⟩ => show (0 + 1) * 6 ≤ 6; omega
    | ⟨2, _⟩ => show (0 + 1) * 256 ≤ 256; omega

end Cert.KernelIdeal.Gen
-- ==== Proof.KernelIdeal.Body.lean ====
/- The body's arithmetic, one text for every head and every chunk of 32 key rows: what the block of the output,
   of the new codes and of the new scales hold, as functions of the seven input blocks. -/
module

public import proofs.«01_k».proof.Proof.KernelIdeal.Runs
public import Idealize.ShloMosaic.Lib.Pipeline.Value
public import Idealize.ShloMosaic.Lib.PointwiseCore
public import Idealize.ShloMosaic.Lib.WritesUnit

@[expose] public section

set_option maxRecDepth 16384

noncomputable section

namespace Cert.KernelIdeal.Gen

open Idealize.ShloMosaic Idealize.ShloMosaic.TcCoe Idealize.ShloMosaic.Tactic

variable {F : FTy → Type} [FloatOps F]

/-! ### The slices, for any head and any chunk -/

theorem slices_keyRow (h : Fin 6) : S6x256.Slices ![h.val, 0] S1x256 :=
  ⟨rfl, fun a => by have := h.isLt; match a with | ⟨0, _⟩ => (show h.val + 1 ≤ 6; omega) | ⟨1, _⟩ => (show 0 + 256 ≤ 256; omega)⟩

theorem slices_valueRow (h : Fin 6) : S6x512.Slices ![h.val, 0] S1x512 :=
  ⟨rfl, fun a => by have := h.isLt; match a with | ⟨0, _⟩ => (show h.val + 1 ≤ 6; omega) | ⟨1, _⟩ => (show 0 + 512 ≤ 512; omega)⟩

theorem slices_headEntry (h : Fin 6) : S6x1.Slices ![h.val, 0] S1x1 :=
  ⟨rfl, fun a => by have := h.isLt; match a with | ⟨0, _⟩ => (show h.val + 1 ≤ 6; omega) | ⟨1, _⟩ => (show 0 + 1 ≤ 1; omega)⟩

theorem slices_chunkColumn (h : Fin 6) (c : Fin 8) : S256x6.Slices ![32 * c.val, h.val] S32x1 :=
  ⟨rfl, fun a => by
    have := h.isLt; have := c.isLt
    match a with | ⟨0, _⟩ => (show 32 * c.val + 32 ≤ 256; omega) | ⟨1, _⟩ => (show h.val + 1 ≤ 6; omega)⟩

theorem inb_head (h : Fin 6) : ∀ a, (![0, h.val, 0, 0] : Fin 4 → Nat) a + S1x1x256x512.size a ≤ S1x6x256x512.size a := fun a => by
  have := h.isLt
  match a with
  | ⟨0, _⟩ => (show 0 + 1 ≤ 1; omega) | ⟨1, _⟩ => (show h.val + 1 ≤ 6; omega)
  | ⟨2, _⟩ => (show 0 + 256 ≤ 256; omega) | ⟨3, _⟩ => (show 0 + 512 ≤ 512; omega)

theorem inb_chunk (h : Fin 6) (c : Fin 8) : ∀ a, (![0, h.val, 32 * c.val, 0] : Fin 4 → Nat) a + S1x1x32x512.size a ≤ S1x6x256x512.size a := fun a => by
  have := h.isLt; have := c.isLt
  match a with
  | ⟨0, _⟩ => (show 0 + 1 ≤ 1; omega) | ⟨1, _⟩ => (show h.val + 1 ≤ 6; omega)
  | ⟨2, _⟩ => (show 32 * c.val + 32 ≤ 256; omega) | ⟨3, _⟩ => (show 0 + 512 ≤ 512; omega)

theorem inb_scaleRow (h : Fin 6) : ∀ a, (![0, h.val, 0] : Fin 3 → Nat) a + S1x1x256.size a ≤ S1x6x256.size a := fun a => by
  have := h.isLt
  match a with
  | ⟨0, _⟩ => (show 0 + 1 ≤ 1; omega) | ⟨1, _⟩ => (show h.val + 1 ≤ 6; omega) | ⟨2, _⟩ => (show 0 + 256 ≤ 256; omega)

/-- Head `h`'s codes in the block. -/
abbrev headRect (h : Fin 6) : Rect S1x6x256x512 := Rect.unit ![0, h.val, 0, 0] S1x1x256x512.size (inb_head h)

/-- Chunk `c` of head `h`'s codes in the block. -/
abbrev chunkRect (h : Fin 6) (c : Fin 8) : Rect S1x6x256x512 :=
  Rect.unit ![0, h.val, 32 * c.val, 0] S1x1x32x512.size (inb_chunk h c)

/-- Head `h`'s row of scales in the block. -/
abbrev scaleRect (h : Fin 6) : Rect S1x6x256 := Rect.unit ![0, h.val, 0] S1x1x256.size (inb_scaleRow h)

/-- The whole blocks the body loads. -/
abbrev wholeQ : Rect S1x1x6x256 := Rect.unit ![0, 0, 0, 0] S1x1x6x256.size inb_S1x1x6x256_S1x1x6x256_0_0_0_0
abbrev wholeV : Rect S1x1x6x512 := Rect.unit ![0, 0, 0, 0] S1x1x6x512.size inb_S1x1x6x512_S1x1x6x512_0_0_0_0
abbrev wholeG : Rect S1x1x6 := Rect.unit ![0, 0, 0] S1x1x6.size inb_S1x1x6_S1x1x6_0_0_0
abbrev wholeS : Rect S1x6x256 := Rect.unit ![0, 0, 0] S1x6x256.size inb_S1x6x256_S1x6x256_0_0_0

section
variable (x0 : Vec F S1x1x6x256 .bf16) (x1 : Vec F S1x1x6x256 .bf16) (x2 : Vec F S1x1x6x512 .bf16)
  (x3 : Vec F S1x1x6 .f32) (x4 : Vec F S1x1x6 .f32) (x5 : Vec F S1x6x256x512 .fp8e4m3) (x6 : Vec F S1x6x256 .f32)

/-! ### What every head shares -/

/-- The normalised query. -/
def qn : FVec F S6x256 .f32 := k0_pay4 (View.ld x0 wholeQ)
/-- The normalised key. -/
def kn : FVec F S6x256 .f32 := k0_pay5 (View.ld x1 wholeQ)
/-- The stored scales, rounded to bf16. -/
def sc : FVec F S6x256 .f32 := k0_pay6 (View.ld x6 wholeS)
/-- The decay of every head. -/
def decay : FVec F S6x1 .f32 := k0_pay9 k0_pay7 (Scalar.ofBits .f32 0x00000000#32) (k0_pay8 (View.ld x3 wholeG))
/-- The write strength of every head. -/
def strength : FVec F S6x1 .f32 := k0_pay10 (View.ld x4 wholeG)
/-- The value rows. -/
def vrows : FVec F S6x512 .f32 := k0_pay11 (View.ld x2 wholeV)
/-- The key with the scales in it. -/
def knScaled : FVec F S6x256 .bf16 := k0_pay12 (kn x1) (sc x6)
/-- The query with the scales in it. -/
def qnScaled : FVec F S6x256 .bf16 := k0_pay13 (qn x0) (sc x6)
/-- Query times key, per head. -/
def qkDot : FVec F S6x1 .f32 := k0_pay14 (qn x0) (kn x1)
/-- The key as columns. -/
def knCols : FVec F S256x6 .f32 := k0_pay15 (kn x1)
/-- Decay times scale as columns. -/
def decayCols : FVec F S256x6 .f32 :=
  k0_pay16 (sc x6) k0_pay7 (Scalar.ofBits .f32 0x00000000#32) (k0_pay8 (View.ld x3 wholeG))

/-! ### A head -/

/-- Head `h`: the key's and the query's products with the old state's codes. -/
def products (h : Fin 6) : FVec F S2x512 .f32 :=
  matmul dot_S2x256_S256x512_S2x512_1_0_0_1_n_n none
    (concatenate S2x256 0 [⟨S1x256, extractStridedSlice S1x256 ![h.val, 0] (knScaled x1 x6) (slices_keyRow h)⟩,
      ⟨S1x256, extractStridedSlice S1x256 ![h.val, 0] (qnScaled x0 x6) (slices_keyRow h)⟩] concatenates_S1x256_S1x256_S2x256_d0)
    (extf .bf16 (shapeCast S256x512 (View.ld x5 (headRect h)) shapeCasts_S1x1x256x512_S256x512 : FVec F S256x512 .fp8e4m3) bitsLt_fp8e4m3_bf16)
    (constant S2x512 .f32 0x00000000#32)

/-- Head `h`: the row added to the state along the key. -/
def delta (h : Fin 6) : FVec F S1x512 .f32 :=
  mulf (broadcastTo S1x512 (extractStridedSlice S1x1 ![h.val, 0] (strength x4) (slices_headEntry h)) broadcasts_S1x1_S1x512)
    (subf (extractStridedSlice S1x512 ![h.val, 0] (vrows x2) (slices_valueRow h))
      (mulf (broadcastTo S1x512 (extractStridedSlice S1x1 ![h.val, 0] (decay x3) (slices_headEntry h)) broadcasts_S1x1_S1x512)
        (extractStridedSlice S1x512 ![0, 0] (products x0 x1 x5 x6 h) slices_S2x512_o0_0_S1x512)))

/-- Head `h`'s row of the output. -/
def outRow (h : Fin 6) : FVec F S1x1x1x512 .bf16 :=
  shapeCast S1x1x1x512 (truncf .bf16 (addf
      (mulf (broadcastTo S1x512 (extractStridedSlice S1x1 ![h.val, 0] (decay x3) (slices_headEntry h)) broadcasts_S1x1_S1x512)
        (extractStridedSlice S1x512 ![1, 0] (products x0 x1 x5 x6 h) slices_S2x512_o1_0_S1x512))
      (mulf (broadcastTo S1x512 (extractStridedSlice S1x1 ![h.val, 0] (qkDot x0 x1) (slices_headEntry h)) broadcasts_S1x1_S1x512)
        (delta x0 x1 x2 x3 x4 x5 x6 h))) bitsLt_bf16_f32) shapeCasts_S1x512_S1x1x1x512

/-! ### A chunk of 32 key rows of a head -/

/-- The chunk's new state. -/
def chunkState (h : Fin 6) (c : Fin 8) : FVec F S32x512 .f32 :=
  addf (mulf (broadcastTo S32x512 (extractStridedSlice S32x1 ![32 * c.val, h.val] (decayCols x3 x6) (slices_chunkColumn h c)) broadcasts_S32x1_S32x512)
      (extf .f32 (shapeCast S32x512 (View.ld x5 (chunkRect h c)) shapeCasts_S1x1x32x512_S32x512 : FVec F S32x512 .fp8e4m3) bitsLt_fp8e4m3_f32))
    (mulf (broadcastTo S32x512 (extractStridedSlice S32x1 ![32 * c.val, h.val] (knCols x1) (slices_chunkColumn h c)) broadcasts_S32x1_S32x512)
      (broadcastTo S32x512 (delta x0 x1 x2 x3 x4 x5 x6 h) broadcasts_S1x512_S32x512))
end

/-- The largest magnitude of every row of a chunk. -/
def rowMax (s : FVec F S32x512 .f32) : FVec F S32x1 .f32 :=
  shapeCast S32x1 (multiReduction .maximumf [1] S32 (absf s) 0xFF800000#32 reduces_S32x512_S32 (.inl rfl) rfl) shapeCasts_S32_S32x1

/-- The words of the powers of two 2^-126 … 2^125. -/
def fields : IVec S1x252 32 :=
  shli (addi (iota .tc S1x252 32 [1] iota_S1x252_d1_w32) (broadcast S1x252 1#32)) (broadcast S1x252 23#32)

/-- The word of the largest power of two not above `amax / 448` (zero when there is none). -/
def expBits (amax : FVec F S32x1 .f32) : IVec S32x1 32 :=
  shapeCast S32x1 (multiReductionI .maxsi [1] S32
    (select (cmpf .oge (broadcastTo S32x252 (mulf amax (broadcast S32x1 (Scalar.ofBits .f32 0x3B124925#32))) broadcasts_S32x1_S32x252)
        (broadcastTo S32x252 (bitcastToFloat .f32 fields) broadcasts_S1x252_S32x252))
      (broadcastTo S32x252 (shapeCast S1x252 fields shapeCasts_S1x252_S1x252) broadcasts_S1x252_S32x252)
      (broadcast S32x252 0#32)) 2147483648#32 reduces_S32x252_S32 rfl) shapeCasts_S32_S32x1

/-- The word of a row's new scale. -/
def scaleBits (amax : FVec F S32x1 .f32) : IVec S32x1 32 :=
  select (cmpf .oeq amax (broadcast S32x1 (Scalar.ofBits .f32 0x00000000#32))) (broadcast S32x1 1065353216#32)
    (addi (expBits amax) (broadcast S32x1 8388608#32))

/-- A row's new scale. -/
def scaleCol (s : FVec F S32x512 .f32) : FVec F S32x1 .f32 := bitcastToFloat .f32 (scaleBits (rowMax s))

/-- The codes of a chunk. -/
def codesOf (s : FVec F S32x512 .f32) : FVec F S1x1x32x512 .fp8e4m3 :=
  shapeCast S1x1x32x512 (truncf .fp8e4m3 (minimumf (broadcast S32x512 (Scalar.ofBits .f32 0x43E00000#32))
    (maximumf (broadcast S32x512 (Scalar.ofBits .f32 0xC3E00000#32))
      (mulf s (broadcastTo S32x512 (bitcastToFloat .f32 (subi (broadcast S32x1 2130706432#32) (scaleBits (rowMax s)))) broadcasts_S32x1_S32x512))))
    bitsLt_fp8e4m3_f32) shapeCasts_S32x512_S1x1x32x512

section
variable (x0 : Vec F S1x1x6x256 .bf16) (x1 : Vec F S1x1x6x256 .bf16) (x2 : Vec F S1x1x6x512 .bf16)
  (x3 : Vec F S1x1x6 .f32) (x4 : Vec F S1x1x6 .f32) (x5 : Vec F S1x6x256x512 .fp8e4m3) (x6 : Vec F S1x6x256 .f32)

/-- The new codes of chunk `c` of head `h`. -/
def chunkCodes (h : Fin 6) (c : Fin 8) : FVec F S1x1x32x512 .fp8e4m3 :=
  codesOf (chunkState x0 x1 x2 x3 x4 x5 x6 h c)

/-- The new scales of chunk `c` of head `h`. -/
def chunkScales (h : Fin 6) (c : Fin 8) : FVec F S32x1 .f32 :=
  scaleCol (chunkState x0 x1 x2 x3 x4 x5 x6 h c)

/-- Head `h`'s row of new scales. -/
def scaleRow (h : Fin 6) : FVec F S1x1x256 .f32 :=
  shapeCast S1x1x256 (transpose S1x256 [1, 0]
    (concatenate S256x1 0 (List.ofFn fun c : Fin 8 => (⟨S32x1, chunkScales x0 x1 x2 x3 x4 x5 x6 h c⟩ : (s : Shape) × Vec F s .f32))
      concatenates_S32x1_S32x1_S32x1_S32x1_S32x1_S32x1_S32x1_S32x1_S256x1_d0)
    transposes_S256x1_p1_0_S1x256) shapeCasts_S1x256_S1x1x256

/-! ### The three output blocks -/

/-- The head and the chunk of the `k`-th piece of codes, last stored first. -/
def headOf (k : Fin 48) : Fin 6 := ⟨(47 - k.val) / 8, by omega⟩
def chunkOf (k : Fin 48) : Fin 8 := ⟨(47 - k.val) % 8, by omega⟩

/-- The pieces the codes' block is stored in, last first. -/
def codePieces : List (View.Piece (Elt F) S1x6x256x512 .fp8e4m3) :=
  List.ofFn fun k : Fin 48 => ⟨chunkRect (headOf k) (chunkOf k), chunkCodes x0 x1 x2 x3 x4 x5 x6 (headOf k) (chunkOf k)⟩

/-- The pieces the scales' block is stored in, last first. -/
def scalePieces : List (View.Piece (Elt F) S1x6x256 .f32) :=
  List.ofFn fun k : Fin 6 => ⟨scaleRect (⟨5 - k.val, by omega⟩ : Fin 6), scaleRow x0 x1 x2 x3 x4 x5 x6 ⟨5 - k.val, by omega⟩⟩

/-- The output's block: row `h` is head `h`'s. -/
def out0_7 : Vec F S1x1x6x512 .bf16 := fun y => outRow x0 x1 x2 x3 x4 x5 x6 (y 2) (ix4 (0 : Fin 1) (0 : Fin 1) (0 : Fin 1) (y 3 : Fin 512) : S1x1x1x512.Idx)

/-- The new codes' block: chunk by chunk. -/
def out0_8 : Vec F S1x6x256x512 .fp8e4m3 := fun y =>
  chunkCodes x0 x1 x2 x3 x4 x5 x6 (y 1) (⟨(y 2).val / 32, by have : (y 2).val < 256 := (y 2).isLt; omega⟩ : Fin 8)
    (ix4 (0 : Fin 1) (0 : Fin 1) (⟨(y 2).val % 32, by omega⟩ : Fin 32) (y 3 : Fin 512) : S1x1x32x512.Idx)

/-- The new scales' block: row `h` is head `h`'s. -/
def out0_9 : Vec F S1x6x256 .f32 := fun y =>
  scaleRow x0 x1 x2 x3 x4 x5 x6 (y 1) (ix3 (0 : Fin 1) (0 : Fin 1) (y 2 : Fin 256) : S1x1x256.Idx)

/-! ### What the stores leave -/

variable {sig' : RefSig} {κ' : Kind} {sp' : Space}

theorem read_codePieces (v : View sig' κ' sp' S1x6x256x512 .fp8e4m3) (f : v.ty.Contents (Elt F)) :
    v.read (Elt F) (v.writes (Elt F) f (codePieces x0 x1 x2 x3 x4 x5 x6)) = out0_8 x0 x1 x2 x3 x4 x5 x6 := by
  have cover : ∀ y : S1x6x256x512.Idx, ∃ p ∈ codePieces x0 x1 x2 x3 x4 x5 x6, y ∈ p.1.set := fun y => by
    have h0 : (y 0).val < 1 := (y 0).isLt
    have h1 : (y 1).val < 6 := (y 1).isLt
    have h2 : (y 2).val < 256 := (y 2).isLt
    have h3 : (y 3).val < 512 := (y 3).isLt
    refine ⟨_, List.mem_ofFn.mpr ⟨(⟨47 - (8 * (y 1).val + (y 2).val / 32), by omega⟩ : Fin 48), rfl⟩, ?_⟩
    refine (Rect.mem_set_unit (inb := inb_chunk _ _)).mpr fun a => ?_
    match a with
    | ⟨0, _⟩ => show 0 ≤ (y 0).val ∧ (y 0).val < 0 + 1; omega
    | ⟨1, _⟩ => show (47 - (47 - (8 * (y 1).val + (y 2).val / 32))) / 8 ≤ (y 1).val ∧ (y 1).val < (47 - (47 - (8 * (y 1).val + (y 2).val / 32))) / 8 + 1; omega
    | ⟨2, _⟩ => show 32 * ((47 - (47 - (8 * (y 1).val + (y 2).val / 32))) % 8) ≤ (y 2).val ∧ (y 2).val < 32 * ((47 - (47 - (8 * (y 1).val + (y 2).val / 32))) % 8) + 32; omega
    | ⟨3, _⟩ => show 0 ≤ (y 3).val ∧ (y 3).val < 0 + 512; omega
  refine (View.read_writes_eq_canon v f _ cover).trans (funext fun y => View.canon_apply_of_pieces _ _ (fun p hp x => ?_) y (cover y))
  obtain ⟨k, rfl⟩ := List.mem_ofFn.mp hp
  have x0' : (x 0).val < 1 := (x 0).isLt
  have x1' : (x 1).val < 1 := (x 1).isLt
  have x2' : (x 2).val < 32 := (x 2).isLt
  have e1 : (((chunkRect (headOf k) (chunkOf k)).emb x) 1 : Fin 6) = headOf k := Fin.ext (by
    show (headOf k).val + 1 * (x 1).val = _; omega)
  have e2 : (((chunkRect (headOf k) (chunkOf k)).emb x) 2).val = 32 * (chunkOf k).val + (x 2).val := by
    show 32 * (chunkOf k).val + 1 * (x 2).val = _; omega
  have e3 : (((chunkRect (headOf k) (chunkOf k)).emb x) 3).val = (x 3).val := by
    show 0 + 1 * (x 3).val = _; omega
  have eh : ∀ (h h' : Fin 6) (c c' : Fin 8) (z z' : S1x1x32x512.Idx), h = h' → c = c' → z = z' →
      chunkCodes x0 x1 x2 x3 x4 x5 x6 h c z = chunkCodes x0 x1 x2 x3 x4 x5 x6 h' c' z' := by
    rintro h _ c _ z _ rfl rfl rfl; rfl
  refine eh _ _ _ _ _ _ e1.symm (Fin.ext ?_) (funext fun a => Fin.ext ?_)
  · show (chunkOf k).val = (((chunkRect (headOf k) (chunkOf k)).emb x) 2).val / 32
    rw [e2]; omega
  · match a with
    | ⟨0, _⟩ => show (x 0).val = 0; omega
    | ⟨1, _⟩ => show (x 1).val = 0; omega
    | ⟨2, _⟩ => show (x 2).val = (((chunkRect (headOf k) (chunkOf k)).emb x) 2).val % 32; rw [e2]; omega
    | ⟨3, _⟩ => exact e3.symm

theorem read_scalePieces (v : View sig' κ' sp' S1x6x256 .f32) (f : v.ty.Contents (Elt F)) :
    v.read (Elt F) (v.writes (Elt F) f (scalePieces x0 x1 x2 x3 x4 x5 x6)) = out0_9 x0 x1 x2 x3 x4 x5 x6 := by
  have cover : ∀ y : S1x6x256.Idx, ∃ p ∈ scalePieces x0 x1 x2 x3 x4 x5 x6, y ∈ p.1.set := fun y => by
    have h0 : (y 0).val < 1 := (y 0).isLt
    have h1 : (y 1).val < 6 := (y 1).isLt
    have h2 : (y 2).val < 256 := (y 2).isLt
    refine ⟨_, List.mem_ofFn.mpr ⟨(⟨5 - (y 1).val, by omega⟩ : Fin 6), rfl⟩, ?_⟩
    refine (Rect.mem_set_unit (inb := inb_scaleRow _)).mpr fun a => ?_
    match a with
    | ⟨0, _⟩ => show 0 ≤ (y 0).val ∧ (y 0).val < 0 + 1; omega
    | ⟨1, _⟩ => show 5 - (5 - (y 1).val) ≤ (y 1).val ∧ (y 1).val < 5 - (5 - (y 1).val) + 1; omega
    | ⟨2, _⟩ => show 0 ≤ (y 2).val ∧ (y 2).val < 0 + 256; omega
  refine (View.read_writes_eq_canon v f _ cover).trans (funext fun y => View.canon_apply_of_pieces _ _ (fun p hp x => ?_) y (cover y))
  obtain ⟨k, rfl⟩ := List.mem_ofFn.mp hp
  have x0' : (x 0).val < 1 := (x 0).isLt
  have x1' : (x 1).val < 1 := (x 1).isLt
  have eh : ∀ (h h' : Fin 6) (z z' : S1x1x256.Idx), h = h' → z = z' →
      scaleRow x0 x1 x2 x3 x4 x5 x6 h z = scaleRow x0 x1 x2 x3 x4 x5 x6 h' z' := by
    rintro h _ z _ rfl rfl; rfl
  refine eh _ _ _ _ (Fin.ext ?_) (funext fun a => Fin.ext ?_)
  · show 5 - k.val = 5 - k.val + 1 * (x 1).val; omega
  · match a with
    | ⟨0, _⟩ => show (x 0).val = 0; omega
    | ⟨1, _⟩ => show (x 1).val = 0; omega
    | ⟨2, _⟩ => show (x 2).val = 0 + 1 * (x 2).val; omega
end

/-! ### Two rows stored into one pair of rows -/

/-- Two rows of the output's block, from row `p` on. -/
abbrev pairRect (p : Nat) (inb : ∀ a, (![0, 0, p, 0] : Fin 4 → Nat) a + S1x1x2x512.size a ≤ S1x1x6x512.size a) : Rect S1x1x6x512 :=
  Rect.unit ![0, 0, p, 0] S1x1x2x512.size inb

/-- The output's rows are stored in pairs: a row goes into its pair's two rows next to what the other row holds. After
    the second row's store, the pair's two rows hold the two rows and every other row is as before. -/
theorem canon_rowPair {sig' : RefSig} {κ' : Kind} {sp' : Space} (v : View sig' κ' sp' S1x1x6x512 .bf16) (p : Nat)
    (inb inb' inb'' : ∀ a, (![0, 0, p, 0] : Fin 4 → Nat) a + S1x1x2x512.size a ≤ S1x1x6x512.size a)
    (L : List (View.Piece (Elt F) S1x1x6x512 .bf16)) (old : Vec F S1x1x2x512 .bf16) (w0 w1 : Vec F S1x1x1x512 .bf16)
    (s0 : S1x1x2x512.Slices ![0, 0, 0, 0] S1x1x1x512) (s1 : S1x1x2x512.Slices ![0, 0, 1, 0] S1x1x1x512) (y : S1x1x6x512.Idx) :
    View.canon ((⟨pairRect p inb,
        updateSlice (v.readCov ((⟨pairRect p inb', updateSlice old w0 ![0, 0, 0, 0] s0⟩ : View.Piece (Elt F) S1x1x6x512 .bf16) :: L)
          (pairRect p inb'').toLoadRect) w1 ![0, 0, 1, 0] s1⟩ : View.Piece (Elt F) S1x1x6x512 .bf16)
      :: (⟨pairRect p inb', updateSlice old w0 ![0, 0, 0, 0] s0⟩ : View.Piece (Elt F) S1x1x6x512 .bf16) :: L) y
      = if (y 2).val = p + 1 then w1 (ix4 (0 : Fin 1) (0 : Fin 1) (0 : Fin 1) (y 3 : Fin 512) : S1x1x1x512.Idx)
        else if (y 2).val = p then w0 (ix4 (0 : Fin 1) (0 : Fin 1) (0 : Fin 1) (y 3 : Fin 512) : S1x1x1x512.Idx)
        else View.canon L y := by
  have h0 : (y 0).val < 1 := (y 0).isLt
  have h1 : (y 1).val < 1 := (y 1).isLt
  have h3 : (y 3).val < 512 := (y 3).isLt
  by_cases hp : p ≤ (y 2).val ∧ (y 2).val < p + 2
  · obtain ⟨x, hx⟩ : ∃ x, (pairRect p inb).emb x = y :=
      (pairRect p inb).exists_idx_of_mem ((Rect.mem_set_unit (inb := inb)).mpr fun a => by
        match a with
        | ⟨0, _⟩ => show 0 ≤ (y 0).val ∧ (y 0).val < 0 + 1; omega
        | ⟨1, _⟩ => show 0 ≤ (y 1).val ∧ (y 1).val < 0 + 1; omega
        | ⟨2, _⟩ => exact hp
        | ⟨3, _⟩ => show 0 ≤ (y 3).val ∧ (y 3).val < 0 + 512; omega)
    have hx2 : p + 1 * (x 2).val = (y 2).val := congrArg (fun z : S1x1x6x512.Idx => (z 2).val) hx
    have hx3 : 0 + 1 * (x 3).val = (y 3).val := congrArg (fun z : S1x1x6x512.Idx => (z 3).val) hx
    have x0' : (x 0).val < 1 := (x 0).isLt
    have x1' : (x 1).val < 1 := (x 1).isLt
    have key : ∀ (o : Nat) (x' : S1x1x2x512.Idx) (b w) (s : S1x1x2x512.Slices ![0, 0, o, 0] S1x1x1x512), x' = x →
        updateSlice (α := Elt F .bf16) b w ![0, 0, o, 0] s x'
          = if (x 2).val = o then w (ix4 (0 : Fin 1) (0 : Fin 1) (0 : Fin 1) (y 3 : Fin 512) : S1x1x1x512.Idx) else b x' := by
      intro o x' b w s hx'
      rw [hx']
      unfold updateSlice
      by_cases ho : (x 2).val = o
      · rw [if_pos ho, dif_pos]
        · refine congrArg w (funext fun a => Fin.ext ?_)
          match a with
          | ⟨0, _⟩ => show (x 0).val - 0 = 0; omega
          | ⟨1, _⟩ => show (x 1).val - 0 = 0; omega
          | ⟨2, _⟩ => show (x 2).val - o = 0; omega
          | ⟨3, _⟩ => show (x 3).val - 0 = (y 3).val; omega
        · intro a
          match a with
          | ⟨0, _⟩ => show 0 ≤ (x 0).val ∧ (x 0).val < 0 + 1; omega
          | ⟨1, _⟩ => show 0 ≤ (x 1).val ∧ (x 1).val < 0 + 1; omega
          | ⟨2, _⟩ => show o ≤ (x 2).val ∧ (x 2).val < o + 1; omega
          | ⟨3, _⟩ => show 0 ≤ (x 3).val ∧ (x 3).val < 0 + 512; omega
      · rw [if_neg ho, dif_neg]
        intro hall
        have := hall 2
        exact ho (by have : o ≤ (x 2).val ∧ (x 2).val < o + 1 := this; omega)
    have inner : View.canon ((⟨pairRect p inb', updateSlice old w0 ![0, 0, 0, 0] s0⟩ : View.Piece (Elt F) S1x1x6x512 .bf16) :: L) y
        = updateSlice old w0 ![0, 0, 0, 0] s0 x := by
      rw [← hx]; exact View.canon_cons_emb _ _ _ x
    have outer := (congrArg (View.canon _) hx.symm).trans (View.canon_cons_emb (Val := Elt F) (pairRect p inb)
        (updateSlice (v.readCov ((⟨pairRect p inb', updateSlice old w0 ![0, 0, 0, 0] s0⟩ : View.Piece (Elt F) S1x1x6x512 .bf16) :: L)
          (pairRect p inb'').toLoadRect) w1 ![0, 0, 1, 0] s1)
        ((⟨pairRect p inb', updateSlice old w0 ![0, 0, 0, 0] s0⟩ : View.Piece (Elt F) S1x1x6x512 .bf16) :: L) x)
    refine outer.trans ((key 1 x _ _ _ rfl).trans ?_)
    by_cases hy : (y 2).val = p + 1
    · rw [if_pos hy, if_pos (by omega)]
    · rw [if_neg hy, if_neg (by omega), if_pos (by omega), View.readCov_eq_canon']
      refine ((congrArg (View.canon _) (show _ = y from hx)).trans inner).trans ((key 0 x _ _ _ rfl).trans ?_)
      rw [if_pos (by omega)]
  · have nm : ∀ inb₀ w, y ∉ ((⟨pairRect p inb₀, w⟩ : View.Piece (Elt F) S1x1x6x512 .bf16)).1.set := by
      intro inb₀ w hm
      have := ((Rect.mem_set_unit (inb := inb₀)).mp hm) 2
      exact hp this
    rw [View.canon_cons_of_not_mem _ _ (nm _ _), View.canon_cons_of_not_mem _ _ (nm _ _), if_neg (by omega), if_neg (by omega)]

/-- Six rows stored in three pairs: the block holds the six rows. -/
theorem read_rowPairs {sig' : RefSig} {κ' : Kind} {sp' : Space} (v : View sig' κ' sp' S1x1x6x512 .bf16) (f : v.ty.Contents (Elt F))
    (i0 i0' i0'' i2 i2' i2'' i4 i4' i4'') (o0 o2 o4 : Vec F S1x1x2x512 .bf16) (w0 w1 w2 w3 w4 w5 : Vec F S1x1x1x512 .bf16)
    (s0 : S1x1x2x512.Slices ![0, 0, 0, 0] S1x1x1x512) (s1 : S1x1x2x512.Slices ![0, 0, 1, 0] S1x1x1x512)
    (L1 L3 L5 : List (View.Piece (Elt F) S1x1x6x512 .bf16))
    (h1 : L1 = [⟨pairRect 0 i0', updateSlice o0 w0 ![0, 0, 0, 0] s0⟩])
    (h3 : L3 = ⟨pairRect 2 i2', updateSlice o2 w2 ![0, 0, 0, 0] s0⟩
      :: ⟨pairRect 0 i0, updateSlice (v.readCov L1 (pairRect 0 i0'').toLoadRect) w1 ![0, 0, 1, 0] s1⟩ :: L1)
    (h5 : L5 = ⟨pairRect 4 i4', updateSlice o4 w4 ![0, 0, 0, 0] s0⟩
      :: ⟨pairRect 2 i2, updateSlice (v.readCov L3 (pairRect 2 i2'').toLoadRect) w3 ![0, 0, 1, 0] s1⟩ :: L3)
    (W : S1x1x6x512.Idx → Elt F .bf16)
    (hW : ∀ y : S1x1x6x512.Idx, W y = if (y 2).val = 5 then w5 (ix4 (0 : Fin 1) (0 : Fin 1) (0 : Fin 1) (y 3 : Fin 512) : S1x1x1x512.Idx)
      else if (y 2).val = 4 then w4 (ix4 (0 : Fin 1) (0 : Fin 1) (0 : Fin 1) (y 3 : Fin 512) : S1x1x1x512.Idx)
      else if (y 2).val = 3 then w3 (ix4 (0 : Fin 1) (0 : Fin 1) (0 : Fin 1) (y 3 : Fin 512) : S1x1x1x512.Idx)
      else if (y 2).val = 2 then w2 (ix4 (0 : Fin 1) (0 : Fin 1) (0 : Fin 1) (y 3 : Fin 512) : S1x1x1x512.Idx)
      else if (y 2).val = 1 then w1 (ix4 (0 : Fin 1) (0 : Fin 1) (0 : Fin 1) (y 3 : Fin 512) : S1x1x1x512.Idx)
      else w0 (ix4 (0 : Fin 1) (0 : Fin 1) (0 : Fin 1) (y 3 : Fin 512) : S1x1x1x512.Idx)) :
    v.read (Elt F) (v.writes (Elt F) f (⟨pairRect 4 i4, updateSlice (v.readCov L5 (pairRect 4 i4'').toLoadRect) w5 ![0, 0, 1, 0] s1⟩ :: L5)) = W := by
  have cover : ∀ y : S1x1x6x512.Idx, ∃ p ∈ (⟨pairRect 4 i4, updateSlice (v.readCov L5 (pairRect 4 i4'').toLoadRect) w5 ![0, 0, 1, 0] s1⟩ :: L5 : List (View.Piece (Elt F) S1x1x6x512 .bf16)), y ∈ p.1.set := by
    intro y
    have h0' : (y 0).val < 1 := (y 0).isLt
    have h1' : (y 1).val < 1 := (y 1).isLt
    have h2' : (y 2).val < 6 := (y 2).isLt
    have h3' : (y 3).val < 512 := (y 3).isLt
    have mem : ∀ (p : Nat) inb w, p ≤ (y 2).val → (y 2).val < p + 2 → y ∈ ((⟨pairRect p inb, w⟩ : View.Piece (Elt F) S1x1x6x512 .bf16)).1.set := by
      intro p inb w ha hb
      refine (Rect.mem_set_unit (inb := inb)).mpr fun a => ?_
      match a with
      | ⟨0, _⟩ => show 0 ≤ (y 0).val ∧ (y 0).val < 0 + 1; omega
      | ⟨1, _⟩ => show 0 ≤ (y 1).val ∧ (y 1).val < 0 + 1; omega
      | ⟨2, _⟩ => exact ⟨ha, hb⟩
      | ⟨3, _⟩ => show 0 ≤ (y 3).val ∧ (y 3).val < 0 + 512; omega
    subst h5; subst h3; subst h1
    by_cases c4 : 4 ≤ (y 2).val
    · exact ⟨_, List.mem_cons_self, mem 4 _ _ c4 (by omega)⟩
    by_cases c2 : 2 ≤ (y 2).val
    · exact ⟨_, List.mem_cons_of_mem _ (List.mem_cons_of_mem _ List.mem_cons_self), mem 2 _ _ c2 (by omega)⟩
    · exact ⟨_, List.mem_cons_of_mem _ (List.mem_cons_of_mem _ (List.mem_cons_of_mem _ (List.mem_cons_of_mem _ List.mem_cons_self))), mem 0 _ _ (by omega) (by omega)⟩
  refine (View.read_writes_eq_canon v f _ cover).trans (funext fun y => ?_)
  have h2' : (y 2).val < 6 := (y 2).isLt
  rw [hW y]
  subst h5
  rw [canon_rowPair]
  subst h3
  rw [canon_rowPair]
  subst h1
  rw [canon_rowPair]
  rcases (by omega : (y 2).val = 0 ∨ (y 2).val = 1 ∨ (y 2).val = 2 ∨ (y 2).val = 3 ∨ (y 2).val = 4 ∨ (y 2).val = 5) with e | e | e | e | e | e <;>
    simp [e]

end Cert.KernelIdeal.Gen

end
-- ==== Proof.KernelIdeal.ValueRun.lean ====
/- The body's run from staged blocks at any grid point: the inputs come back as they were, each output at its block. -/
module

public import proofs.«01_k».proof.Proof.KernelIdeal.Body

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1880000 in
/-- The body's triple: on whole staging memrefs — the inputs' at their contents,
    the outputs' (7, 8, 9) at anything, handed back at the blocks `out0_7`, `out0_8`, `out0_9` —
    the body runs to the continuation holding the inputs' as they were: the printed functions are their skeletons (`Gen.*_eq_skeleton`),
    which `sl_exec` runs (Lib/Exec.lean). -/
theorem kernelRun0_V (c : Dev nD) (i : grid0.Coords) (arg2 : Memref sig .tc .vmem S1x1x6x256 .bf16) (harg2 : arg2.IsWhole) (arg3 : Memref sig .tc .vmem S1x1x6x256 .bf16) (harg3 : arg3.IsWhole) (arg4 : Memref sig .tc .vmem S1x1x6x512 .bf16) (harg4 : arg4.IsWhole) (arg5 : Memref sig .tc .vmem S1x1x6 .f32) (harg5 : arg5.IsWhole) (arg6 : Memref sig .tc .vmem S1x1x6 .f32) (harg6 : arg6.IsWhole) (arg7 : Memref sig .tc .vmem S1x6x256x512 .fp8e4m3) (harg7 : arg7.IsWhole) (arg8 : Memref sig .tc .vmem S1x6x256 .f32) (harg8 : arg8.IsWhole) (arg9 : Memref sig .tc .vmem S1x1x6x512 .bf16) (harg9 : arg9.IsWhole) (arg10 : Memref sig .tc .vmem S1x6x256x512 .fp8e4m3) (harg10 : arg10.IsWhole) (arg11 : Memref sig .tc .vmem S1x6x256 .f32) (harg11 : arg11.IsWhole)
    (x0 : Vec F S1x1x6x256 .bf16) (x1 : Vec F S1x1x6x256 .bf16) (x2 : Vec F S1x1x6x512 .bf16) (x3 : Vec F S1x1x6 .f32) (x4 : Vec F S1x1x6 .f32) (x5 : Vec F S1x6x256x512 .fp8e4m3) (x6 : Vec F S1x6x256 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6) ∗ tbPt0 c tbM0_0 xt0) -∗ K ⟨⟩))
          ⊢ wp frame (wpE (defs₀ (F := F)) Variants.none c none) E (cc0_gated_delta_decode i tbM0_0 htbM0_0 arg2 harg2 arg3 harg3 arg4 harg4 arg5 harg5 arg6 harg6 arg7 harg7 arg8 harg8 arg9 harg9 arg10 harg10 arg11 harg11) K := by
    intro E K
    simp only [cc0_gated_delta_decode_eq_skeleton]; unfold cc0_gated_delta_decode_skel
    simp only [k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, Hk⟩
    subst hf0; subst hf1; subst hf2; subst hf3; subst hf4; subst hf5; subst hf6
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; swap; · iexact H7
      ipureintro
      refine read_rowPairs arg9.view f7 _ _ _ _ _ _ _ _ _ _ _ _
        (outRow _ _ _ _ _ _ _ 0) (outRow _ _ _ _ _ _ _ 1) (outRow _ _ _ _ _ _ _ 2) (outRow _ _ _ _ _ _ _ 3) (outRow _ _ _ _ _ _ _ 4)
        (outRow _ _ _ _ _ _ _ 5) _ _ _ _ _ rfl rfl rfl _ (fun y => ?_)
      unfold out0_7
      generalize (y 2 : Fin 6) = h
      fin_cases h <;> rfl
    isplitl [H8]
    · iexists _; isplitr; swap; · iexact H8
      ipureintro; exact read_codePieces _ _ _ _ _ _ _ arg10.view f8
    isplitl [H9]
    · iexists _; isplitr; swap; · iexact H9
      ipureintro; exact read_scalePieces _ _ _ _ _ _ _ arg11.view f9
    iexact HT0

end Cert.KernelIdeal.Gen

end
-- ==== Proof.KernelIdeal.Values.lean ====
/- The run with its values: the pipeline's proof data with the three outputs named, the body obligation, the launch. -/
module

public import proofs.«01_k».proof.Proof.KernelIdeal.ValueRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and each output's at the body's block of the inputs' (`out0_W`); the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => out0_7 (iblk m hO c 0 t) (iblk m hO c 1 t) (iblk m hO c 2 t) (iblk m hO c 3 t) (iblk m hO c 4 t) (iblk m hO c 5 t) (iblk m hO c 6 t)
    | ⟨8, _⟩ => out0_8 (iblk m hO c 0 t) (iblk m hO c 1 t) (iblk m hO c 2 t) (iblk m hO c 3 t) (iblk m hO c 4 t) (iblk m hO c 5 t) (iblk m hO c 6 t)
    | ⟨9, _⟩ => out0_9 (iblk m hO c 0 t) (iblk m hO c 1 t) (iblk m hO c 2 t) (iblk m hO c 3 t) (iblk m hO c 4 t) (iblk m hO c 5 t) (iblk m hO c 6 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = out0_7 (iblk m hO c 0 t) (iblk m hO c 1 t) (iblk m hO c 2 t) (iblk m hO c 3 t) (iblk m hO c 4 t) (iblk m hO c 5 t) (iblk m hO c 6 t) := by dsimp only [dats]; try rfl
theorem after0_8 (hO : Ok m) (c : Dev nD) (t : Fin (cfgM m hO).N) : (dats m hO 0 c).after 8 t = out0_8 (iblk m hO c 0 t) (iblk m hO c 1 t) (iblk m hO c 2 t) (iblk m hO c 3 t) (iblk m hO c 4 t) (iblk m hO c 5 t) (iblk m hO c 6 t) := by dsimp only [dats]; try rfl
theorem after0_9 (hO : Ok m) (c : Dev nD) (t : Fin (cfgM m hO).N) : (dats m hO 0 c).after 9 t = out0_9 (iblk m hO c 0 t) (iblk m hO c 1 t) (iblk m hO c 2 t) (iblk m hO c 3 t) (iblk m hO c 4 t) (iblk m hO c 5 t) (iblk m hO c 6 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_V c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

-- `θ_run_frameP`'s implicit arguments are found by unifying its conclusion with this one, which takes unfolding plain
-- definitions in a metavariable's type
set_option backward.isDefEq.respectTransparency.types false in
/-- THE LAUNCH: every weakly fair execution of @main terminates, every array of the pipeline then at what the proof
    data says of it and every other unscoped buffer at its contents at the region's entry. -/
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

end Cert.KernelIdeal.Val

end
-- ==== Proof.KernelIdeal.Run.lean ====
/- The body's run from staged blocks at any grid point: the inputs come back as they were, each output at some contents. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1880000 in
/-- The body's triple: on whole staging memrefs — the inputs' at their contents,
    the FORGOTTEN outputs' (7, 8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S1x1x6x256 .bf16) (harg2 : arg2.IsWhole) (arg3 : Memref sig .tc .vmem S1x1x6x256 .bf16) (harg3 : arg3.IsWhole) (arg4 : Memref sig .tc .vmem S1x1x6x512 .bf16) (harg4 : arg4.IsWhole) (arg5 : Memref sig .tc .vmem S1x1x6 .f32) (harg5 : arg5.IsWhole) (arg6 : Memref sig .tc .vmem S1x1x6 .f32) (harg6 : arg6.IsWhole) (arg7 : Memref sig .tc .vmem S1x6x256x512 .fp8e4m3) (harg7 : arg7.IsWhole) (arg8 : Memref sig .tc .vmem S1x6x256 .f32) (harg8 : arg8.IsWhole) (arg9 : Memref sig .tc .vmem S1x1x6x512 .bf16) (harg9 : arg9.IsWhole) (arg10 : Memref sig .tc .vmem S1x6x256x512 .fp8e4m3) (harg10 : arg10.IsWhole) (arg11 : Memref sig .tc .vmem S1x6x256 .f32) (harg11 : arg11.IsWhole)
    (x0 : Vec F S1x1x6x256 .bf16) (x1 : Vec F S1x1x6x256 .bf16) (x2 : Vec F S1x1x6x512 .bf16) (x3 : Vec F S1x1x6 .f32) (x4 : Vec F S1x1x6 .f32) (x5 : Vec F S1x6x256x512 .fp8e4m3) (x6 : Vec F S1x6x256 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_gated_delta_decode i tbM0_0 htbM0_0 arg2 harg2 arg3 harg3 arg4 harg4 arg5 harg5 arg6 harg6 arg7 harg7 arg8 harg8 arg9 harg9 arg10 harg10 arg11 harg11) K := by
    intro E K
    simp only [cc0_gated_delta_decode_eq_skeleton]; unfold cc0_gated_delta_decode_skel
    simp only [k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexact HT0

end Cert.KernelIdeal.Gen

end
-- ==== Proof.KernelIdeal.Frame.lean ====
/- The frame: the pipeline's proof data with the three outputs left unnamed, the body obligation, the launch. -/
module

public import proofs.«01_k».proof.Proof.KernelIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Gen

end
-- ==== Proof.Value.Step.lean ====
/- A step of the gated delta rule for one sequence and one head over the extended reals, with the row quantiser, as
   the reference states it; and the two ways to find a row's power-of-two scale give the same scale. -/
module

public import Idealize.ShloMosaic.Lib.Pointwise

@[expose] public section

set_option maxRecDepth 16384

noncomputable section

namespace Cert.Step

open Idealize.ShloMosaic

/-! ### The step -/

/-- A vector over its length, entry `i`. -/
def unit (x : Fin 256 → EReal) (i : Fin 256) : EReal :=
  x i * Ideal.rsqrt (∑ k : Fin 256, x k * x k + Ideal.ofBits .f32 0x358637BD#32)

/-- The query: over its length, and over the root of the number of its entries. -/
def query (x : Fin 256 → EReal) (i : Fin 256) : EReal := unit x i * Ideal.ofBits .f32 0x3D800000#32

section
variable (q k : Fin 256 → EReal) (v : Fin 512 → EReal) (g β : EReal) (codes : Fin 256 → Fin 512 → EReal) (scales : Fin 256 → EReal)

/-- The old state: codes times their rows' scales. -/
def old (i : Fin 256) (j : Fin 512) : EReal := codes i j * scales i

/-- What is written along the key. -/
def delta (j : Fin 512) : EReal :=
  β * (v j - Ideal.exp g * ∑ i : Fin 256, unit k i * old codes scales i j)

/-- The output. -/
def out (j : Fin 512) : EReal :=
  Ideal.exp g * ∑ i : Fin 256, query q i * old codes scales i j
    + (∑ i : Fin 256, query q i * unit k i) * delta k v g β codes scales j

/-- The new state. -/
def state (i : Fin 256) (j : Fin 512) : EReal :=
  Ideal.exp g * old codes scales i j + unit k i * delta k v g β codes scales j
end

/-! ### The quantiser -/

/-- The largest magnitude of a row. -/
def amax (s : Fin 512 → EReal) : EReal :=
  Finset.univ.fold max (Ideal.ofBits .f32 0xFF800000#32) fun j => max (s j) (-(s j))

/-- The exponent of a row's scale, from the row's largest magnitude. -/
def exponent (a : EReal) : EReal :=
  if a = 0 then 0 else
    min (Ideal.ofBits .f32 0x42FC0000#32) (max (Ideal.ofBits .f32 0xC2FC0000#32)
      (Ideal.liftRound Int.floor (Ideal.div (Ideal.log (a * Ideal.ofBits .f32 0x3B124925#32)) (Ideal.log (Ideal.ofBits .f32 0x40000000#32))) + 1))

/-- A row's scale. -/
def scale (s : Fin 512 → EReal) : EReal := Ideal.exp2 (exponent (amax s))

/-- A row's codes. -/
def code (s : Fin 512 → EReal) (j : Fin 512) : EReal :=
  min (Ideal.ofBits .f32 0x43E00000#32) (max (Ideal.ofBits .f32 0xC3E00000#32) (s j * Ideal.exp2 (-(exponent (amax s)))))

/-! ### The scale found by comparing with every power of two -/

/-- The word of the `x`-th power of two, from 2^-126 on. -/
abbrev field (x : Fin 252) : BitVec 32 := IntOp.shli .vector (IntOp.addi (BitVec.ofNat 32 x.val) 1#32) 23#32

/-- The word of a row's scale, from the row's largest magnitude. -/
def scaleWord (a : EReal) : BitVec 32 :=
  if a = 0 then 1065353216#32 else
    IntOp.addi (Finset.univ.fold IntOp.maxsi (2147483648#32) fun x : Fin 252 =>
      if Ideal.ofBits .f32 (field x) ≤ a * Ideal.ofBits .f32 0x3B124925#32 then field x else 0#32) 8388608#32

/-- The word with exponent field `n` and nothing else. -/
abbrev word (n : Nat) : BitVec 32 := BitVec.ofNat 32 (n * 8388608)

theorem field_eq : ∀ x : Fin 252, field x = word (x.val + 1) := by decide +kernel

theorem word_parts : ∀ n : Fin 256, (word n.val).extractLsb' 31 1 = 0#1 ∧ ((word n.val).extractLsb' 23 8).toNat = n.val
    ∧ ((word n.val).extractLsb' 0 23).toNat = 0 := by decide +kernel

/-- What such a word stands for. -/
theorem ofBits_word (n : Nat) (h1 : 1 ≤ n) (h2 : n ≤ 254) :
    Ideal.ofBits .f32 (word n) = (((2 : ℝ) ^ ((n : ℤ) - 127) : ℝ) : EReal) := by
  obtain ⟨a, b, c⟩ := word_parts ⟨n, by omega⟩
  show Ideal.ieee 8 23 (word n) = _
  unfold Ideal.ieee
  simp only [Nat.reduceAdd] at *
  rw [b, c, a, if_neg (by omega), if_neg (by omega)]
  congr 1
  rw [show ((n : ℤ) - (2 ^ (8 - 1) - 1) - (23 : ℕ)) = ((n : ℤ) - 127) + (-23) by norm_num; ring, zpow_add₀ (by norm_num)]
  norm_num
  ring

theorem fold_words : ∀ f : Fin 253, (Finset.univ.fold IntOp.maxsi (2147483648#32) fun x : Fin 252 =>
    if x.val + 1 ≤ f.val then field x else 0#32) = word f.val := by decide +kernel

theorem words_sum : ∀ f : Fin 253, IntOp.addi (word f.val) 8388608#32 = word (f.val + 1)
    ∧ IntOp.subi (2130706432#32) (word (f.val + 1)) = word (253 - f.val) := by decide +kernel

theorem ofBits_448 : ∃ r : ℝ, 0 < r ∧ Ideal.ofBits .f32 0x3B124925#32 = (r : EReal) := by
  refine ⟨(1 * (2 ^ 23 + 1198373 : ℕ) * (2 : ℝ) ^ (-32 : ℤ)), by positivity, ?_⟩
  show Ideal.ieee 8 23 0x3B124925#32 = _
  unfold Ideal.ieee
  rw [if_neg (by decide), if_neg (by decide), if_neg (by decide)]
  rw [show (BitVec.extractLsb' 0 23 0x3B124925#32).toNat = 1198373 by decide, show (BitVec.extractLsb' 23 8 0x3B124925#32).toNat = 118 by decide]
  congr 1

theorem ofBits_two : Ideal.ofBits .f32 0x40000000#32 = ((2 : ℝ) : EReal) := by
  have := ofBits_word 128 (by norm_num) (by norm_num)
  rw [show (0x40000000#32 : BitVec 32) = word 128 by decide, this]; norm_num

theorem ofBits_hi : Ideal.ofBits .f32 0x42FC0000#32 = ((126 : ℝ) : EReal) := by
  show Ideal.ieee 8 23 0x42FC0000#32 = _
  unfold Ideal.ieee
  rw [if_neg (by decide), if_neg (by decide), if_neg (by decide)]
  rw [show (BitVec.extractLsb' 0 23 0x42FC0000#32).toNat = 0x7C0000 by decide, show (BitVec.extractLsb' 23 8 0x42FC0000#32).toNat = 133 by decide]
  congr 1; norm_num

theorem ofBits_lo : Ideal.ofBits .f32 0xC2FC0000#32 = ((-126 : ℝ) : EReal) := by
  show Ideal.ieee 8 23 0xC2FC0000#32 = _
  unfold Ideal.ieee
  rw [if_neg (by decide), if_neg (by decide), if_pos (by decide)]
  rw [show (BitVec.extractLsb' 0 23 0xC2FC0000#32).toNat = 0x7C0000 by decide, show (BitVec.extractLsb' 23 8 0xC2FC0000#32).toNat = 133 by decide]
  congr 1; norm_num

/-- A property of the first numbers below 252 holds of exactly the first `f` of them. -/
theorem exists_bound (P : Fin 252 → Prop) (hP : ∀ x y : Fin 252, x ≤ y → P y → P x) :
    ∃ f : Fin 253, ∀ x : Fin 252, P x ↔ x.val + 1 ≤ f.val := by
  classical
  by_cases hall : ∀ x, P x
  · exact ⟨252, fun x => ⟨fun _ => by have := x.isLt; show x.val + 1 ≤ 252; omega, fun _ => hall x⟩⟩
  · push Not at hall
    have hex : ∃ n : Nat, ∃ h : n < 252, ¬ P ⟨n, h⟩ := ⟨hall.choose.val, hall.choose.isLt, hall.choose_spec⟩
    obtain ⟨hlt, hn⟩ := Nat.find_spec hex
    refine ⟨⟨Nat.find hex, by omega⟩, fun x => ⟨fun hx => ?_, fun hx => ?_⟩⟩
    · by_contra hc
      exact hn (hP _ x (by show Nat.find hex ≤ x.val; simp only at hc; omega) hx)
    · by_contra hc
      exact Nat.find_min hex (m := x.val) (by simp only at hx; omega) ⟨x.isLt, hc⟩

/-- The exponent in terms of the powers of two not above `y`. -/
theorem floor_log (y : EReal) (hy : 0 < y) (f : Fin 253)
    (hf : ∀ x : Fin 252, Ideal.ofBits .f32 (field x) ≤ y ↔ x.val + 1 ≤ f.val) :
    min (Ideal.ofBits .f32 0x42FC0000#32) (max (Ideal.ofBits .f32 0xC2FC0000#32)
      (Ideal.liftRound Int.floor (Ideal.div (Ideal.log y) (Ideal.log (Ideal.ofBits .f32 0x40000000#32))) + 1))
      = (((f.val : ℝ) - 126 : ℝ) : EReal) := by
  have hl2 : 0 < Real.log 2 := Real.log_pos (by norm_num)
  have hfl : f.val ≤ 252 := by have := f.isLt; omega
  have hf' : ∀ n : Nat, 1 ≤ n → n ≤ 252 → ((((2 : ℝ) ^ ((n : ℤ) - 127) : ℝ) : EReal) ≤ y ↔ n ≤ f.val) := by
    intro n h1 h2
    have := hf ⟨n - 1, by omega⟩
    rw [field_eq, show (⟨n - 1, by omega⟩ : Fin 252).val + 1 = n by show n - 1 + 1 = n; omega, ofBits_word n h1 (by omega)] at this
    exact this
  rw [ofBits_two, ofBits_hi, ofBits_lo, Ideal.log_coe, if_neg (by norm_num)]
  have hdiv : ∀ z : EReal, Ideal.div z ((Real.log 2 : ℝ) : EReal) = z * (((Real.log 2)⁻¹ : ℝ) : EReal) := by
    intro z
    unfold Ideal.div
    rw [if_neg (by exact_mod_cast hl2.ne'), EReal.coe_inv]
  rw [hdiv]
  induction y with
  | bot => exact absurd hy (by simp)
  | top =>
    have h252 : f.val = 252 := by
      have := (hf' 252 (by norm_num) le_rfl).mp le_top
      omega
    rw [Ideal.log_top, EReal.top_mul_coe_of_pos (inv_pos.mpr hl2), Ideal.liftRound_top, EReal.top_add_of_ne_bot (by decide), h252]
    rw [max_eq_right le_top, min_eq_left le_top]
    congr 1; norm_num
  | coe r =>
    have hr : 0 < r := by exact_mod_cast hy
    rw [Ideal.log_coe, if_neg (by linarith), ← EReal.coe_mul, Ideal.liftRound_coe, ← EReal.coe_one, ← EReal.coe_add, ← EReal.coe_strictMono.monotone.map_max,
      ← EReal.coe_strictMono.monotone.map_min]
    congr 1
    have hpow : ∀ n : ℤ, (2 : ℝ) ^ n ≤ r ↔ n ≤ ⌊Real.log r * (Real.log 2)⁻¹⌋ := by
      intro n
      rw [Int.le_floor, ← div_eq_mul_inv, le_div_iff₀ hl2, ← Real.log_zpow, Real.log_le_log_iff (by positivity) hr]
    have hn : ∀ n : Nat, 1 ≤ n → n ≤ 252 → ((n : ℤ) - 127 ≤ ⌊Real.log r * (Real.log 2)⁻¹⌋ ↔ n ≤ f.val) := by
      intro n h1 h2
      rw [← hpow, ← hf' n h1 h2, EReal.coe_le_coe_iff]
    generalize ⌊Real.log r * (Real.log 2)⁻¹⌋ = L at hn
    have key : min (126 : ℤ) (max (-126) (L + 1)) = (f.val : ℤ) - 126 := by
      rcases Nat.eq_zero_or_pos f.val with h0 | h0
      · have := hn 1 (by omega) (by omega)
        omega
      · have h1 := (hn f.val h0 hfl).mpr le_rfl
        rcases Nat.lt_or_ge f.val 252 with h2 | h2
        · have := hn (f.val + 1) (by omega) (by omega)
          omega
        · omega
    exact_mod_cast key

theorem exp2_int (n : ℤ) : Ideal.exp2 (((n : ℝ) : ℝ) : EReal) = (((2 : ℝ) ^ n : ℝ) : EReal) := by
  rw [Ideal.exp2_coe]
  exact congrArg _ (Real.rpow_intCast 2 n)

/-- The two ways to find the scale agree: the scale, and its inverse. -/
theorem scaleWord_spec (a : EReal) (ha : 0 ≤ a) :
    Ideal.ofBits .f32 (scaleWord a) = Ideal.exp2 (exponent a)
    ∧ Ideal.ofBits .f32 (IntOp.subi (2130706432#32) (scaleWord a)) = Ideal.exp2 (-(exponent a)) := by
  unfold scaleWord exponent
  by_cases h0 : a = 0
  · rw [if_pos h0, if_pos h0, neg_zero]
    have e : Ideal.exp2 0 = ((1 : ℝ) : EReal) := by
      have := exp2_int 0
      simpa using this
    have w := ofBits_word 127 (by norm_num) (by norm_num)
    rw [e, show (1065353216#32 : BitVec 32) = word 127 by decide, w,
      show IntOp.subi (2130706432#32) (word 127) = word 127 by decide, w]
    norm_num
  · rw [if_neg h0, if_neg h0]
    obtain ⟨c, hc, hcv⟩ := ofBits_448
    rw [hcv]
    have hy : 0 < a * (c : EReal) := EReal.mul_pos (lt_of_le_of_ne ha (Ne.symm h0)) (by exact_mod_cast hc)
    generalize a * (c : EReal) = y at hy
    obtain ⟨f, hf⟩ := exists_bound (fun x => Ideal.ofBits .f32 (field x) ≤ y) (by
      intro x x' hxx hx'
      refine le_trans ?_ hx'
      have h1 := x.isLt
      have h2 := x'.isLt
      rw [field_eq, field_eq, ofBits_word _ (by omega) (by omega), ofBits_word _ (by omega) (by omega), EReal.coe_le_coe_iff]
      exact zpow_le_zpow_right₀ (by norm_num) (by have : x.val ≤ x'.val := hxx; push_cast; omega))
    rw [floor_log y hy f hf]
    simp only [hf]
    rw [fold_words f, (words_sum f).1, (words_sum f).2]
    have hfl := f.isLt
    constructor
    · rw [ofBits_word _ (by omega) (by omega), show ((f.val : ℝ) - 126) = (((f.val : ℤ) - 126 : ℤ) : ℝ) by push_cast; ring, exp2_int]
      congr 2; push_cast; ring
    · rw [ofBits_word _ (by omega) (by omega), ← EReal.coe_neg, show -((f.val : ℝ) - 126) = ((126 - (f.val : ℤ) : ℤ) : ℝ) by push_cast; ring, exp2_int]
      congr 2; omega

theorem amax_nonneg (s : Fin 512 → EReal) : 0 ≤ amax s := by
  have h : max (s 0) (-(s 0)) ≤ amax s := by
    unfold amax
    rw [Finset.le_fold_max]
    exact .inr ⟨0, Finset.mem_univ _, le_rfl⟩
  refine le_trans ?_ h
  rcases le_total 0 (s 0) with h' | h'
  · exact le_max_of_le_left h'
  · exact le_max_of_le_right (EReal.neg_nonneg.mpr h')

end Cert.Step

end
-- ==== Proof.KernelIdeal.Entries.lean ====
/- The body's arithmetic over the extended reals, entry by entry: each head's blocks are the gated delta rule's step. -/
module

public import proofs.«01_k».proof.Proof.KernelIdeal.Body
public import proofs.«01_k».proof.Proof.Value.Step

@[expose] public section

set_option maxRecDepth 16384

noncomputable section

namespace Cert.KernelIdeal.Gen
open Idealize.ShloMosaic Idealize.ShloMosaic.TcCoe Idealize.ShloMosaic.Tactic

variable (x0 : Vec Ideal S1x1x6x256 .bf16) (x1 : Vec Ideal S1x1x6x256 .bf16) (x2 : Vec Ideal S1x1x6x512 .bf16)
  (x3 : Vec Ideal S1x1x6 .f32) (x4 : Vec Ideal S1x1x6 .f32) (x5 : Vec Ideal S1x6x256x512 .fp8e4m3) (x6 : Vec Ideal S1x6x256 .f32)

/-- A head's codes as loaded. -/
theorem ld_head (h : Fin 6) (i : Fin 256) (j : Fin 512) :
    View.ld x5 (headRect h) (ix4 0 0 i j) = x5 (ix4 0 h i j) :=
  congrArg x5 (funext fun a => Fin.ext (by
    match a with
    | ⟨0, _⟩ => rfl
    | ⟨1, _⟩ => show h.val + 1 * 0 = h.val; omega
    | ⟨2, _⟩ => show 0 + 1 * i.val = i.val; omega
    | ⟨3, _⟩ => show 0 + 1 * j.val = j.val; omega))

/-- A chunk's codes as loaded. -/
theorem ld_chunk (h : Fin 6) (c : Fin 8) (r : Fin 32) (j : Fin 512) :
    View.ld x5 (chunkRect h c) (ix4 0 0 r j) = x5 (ix4 0 h ⟨32 * c.val + r.val, by omega⟩ j) :=
  congrArg x5 (funext fun a => Fin.ext (by
    match a with
    | ⟨0, _⟩ => rfl
    | ⟨1, _⟩ => show h.val + 1 * 0 = h.val; omega
    | ⟨2, _⟩ => show 32 * c.val + 1 * r.val = 32 * c.val + r.val; omega
    | ⟨3, _⟩ => show 0 + 1 * j.val = j.val; omega))

/-- The product of two rows with a head's codes. -/
theorem matmul_entry (A : FVec Ideal S2x256 .bf16) (B : FVec Ideal S256x512 .bf16) (p : Fin 2) (j : Fin 512) :
    matmul dot_S2x256_S256x512_S2x512_1_0_0_1_n_n none A B (constant S2x512 .f32 0x00000000#32) (ix2 p j)
      = ∑ i : Fin 256, A (ix2 p i) * B (ix2 i j) := by
  pointwise []

/-- A head's codes as a matrix. -/
theorem headCast_entry (Y : FVec Ideal S1x1x256x512 .fp8e4m3) (i : Fin 256) (j : Fin 512) :
    extf (F := Ideal) .bf16 (shapeCast S256x512 Y shapeCasts_S1x1x256x512_S256x512 : FVec Ideal S256x512 .fp8e4m3) bitsLt_fp8e4m3_bf16 (ix2 i j)
      = Y (ix4 0 0 i j) := by
  pointwise []

/-- A chunk's codes as a matrix. -/
theorem chunkCast_entry (Y : FVec Ideal S1x1x32x512 .fp8e4m3) (r : Fin 32) (j : Fin 512) :
    extf (F := Ideal) .f32 (shapeCast S32x512 Y shapeCasts_S1x1x32x512_S32x512 : FVec Ideal S32x512 .fp8e4m3) bitsLt_fp8e4m3_f32 (ix2 r j)
      = Y (ix4 0 0 r j) := by
  pointwise []

/-- A head's codes, entry by entry. -/
theorem codes_entry (h : Fin 6) (i : Fin 256) (j : Fin 512) :
    extf (F := Ideal) .bf16 (shapeCast S256x512 (View.ld x5 (headRect h)) shapeCasts_S1x1x256x512_S256x512 : FVec Ideal S256x512 .fp8e4m3) bitsLt_fp8e4m3_bf16 (ix2 i j)
      = x5 (ix4 0 h i j) := by
  exact (headCast_entry _ i j).trans (ld_head x5 h i j)

/-- A head's row. -/
theorem row_entry (y : FVec Ideal S6x256 .bf16) (h : Fin 6) (i : Fin 256) :
    extractStridedSlice S1x256 ![h.val, 0] y (slices_keyRow h) (ix2 0 i) = y (ix2 h i) := by
  pointwise []

/-- A chunk's part of a head's column. -/
theorem chunkCol_entry (y : FVec Ideal S256x6 .f32) (h : Fin 6) (c : Fin 8) (r : Fin 32) :
    extractStridedSlice S32x1 ![32 * c.val, h.val] y (slices_chunkColumn h c) (ix2 r 0) = y (ix2 ⟨32 * c.val + r.val, by omega⟩ h) := by
  pointwise []

/-- Two rows, one above the other. -/
theorem pair_entry (a b : FVec Ideal S1x256 .bf16) (i : Fin 256) :
    concatenate S2x256 0 [⟨S1x256, a⟩, ⟨S1x256, b⟩] concatenates_S1x256_S1x256_S2x256_d0 (ix2 0 i) = a (ix2 0 i)
    ∧ concatenate S2x256 0 [⟨S1x256, a⟩, ⟨S1x256, b⟩] concatenates_S1x256_S1x256_S2x256_d0 (ix2 1 i) = b (ix2 0 i) := by
  constructor <;> pointwise []

/-- The key's product with the old codes. -/
theorem products_key (h : Fin 6) (j : Fin 512) : products x0 x1 x5 x6 h (ix2 0 j)
    = ∑ i : Fin 256, knScaled x1 x6 (ix2 h i) * x5 (ix4 0 h i j) := by
  unfold products
  rw [matmul_entry]
  refine Finset.sum_congr rfl fun i _ => ?_
  rw [codes_entry, (pair_entry _ _ i).1, row_entry]

/-- The query's product with the old codes. -/
theorem products_query (h : Fin 6) (j : Fin 512) : products x0 x1 x5 x6 h (ix2 1 j)
    = ∑ i : Fin 256, qnScaled x0 x6 (ix2 h i) * x5 (ix4 0 h i j) := by
  unfold products
  rw [matmul_entry]
  refine Finset.sum_congr rfl fun i _ => ?_
  rw [codes_entry, (pair_entry _ _ i).2, row_entry]

/-- A chunk's codes, entry by entry. -/
theorem chunkCodes_entry (h : Fin 6) (c : Fin 8) (r : Fin 32) (j : Fin 512) :
    extf (F := Ideal) .f32 (shapeCast S32x512 (View.ld x5 (chunkRect h c)) shapeCasts_S1x1x32x512_S32x512 : FVec Ideal S32x512 .fp8e4m3) bitsLt_fp8e4m3_f32 (ix2 r j)
      = x5 (ix4 0 h ⟨32 * c.val + r.val, by omega⟩ j) := by
  exact (chunkCast_entry _ r j).trans (ld_chunk x5 h c r j)

/-- A chunk's new state, entry by entry. -/
theorem chunkState_entry (h : Fin 6) (c : Fin 8) (r : Fin 32) (j : Fin 512) :
    chunkState x0 x1 x2 x3 x4 x5 x6 h c (ix2 r j)
      = decayCols x3 x6 (ix2 ⟨32 * c.val + r.val, by omega⟩ h) * x5 (ix4 0 h ⟨32 * c.val + r.val, by omega⟩ j)
        + knCols x1 (ix2 ⟨32 * c.val + r.val, by omega⟩ h) * delta x0 x1 x2 x3 x4 x5 x6 h (ix2 0 j) := by
  rw [← chunkCol_entry (decayCols x3 x6) h c r, ← chunkCol_entry (knCols x1) h c r, ← chunkCodes_entry x5]
  unfold chunkState
  generalize extractStridedSlice S32x1 ![32 * c.val, h.val] (decayCols x3 x6) (slices_chunkColumn h c) = A
  generalize extractStridedSlice S32x1 ![32 * c.val, h.val] (knCols x1) (slices_chunkColumn h c) = B
  generalize extf .f32 (shapeCast S32x512 (View.ld x5 (chunkRect h c)) shapeCasts_S1x1x32x512_S32x512 : FVec Ideal S32x512 .fp8e4m3) bitsLt_fp8e4m3_f32 = C
  pointwise []

/-- A head's new scales, chunk by chunk. -/
theorem scaleRow_entry (h : Fin 6) (i : Fin 256) : scaleRow x0 x1 x2 x3 x4 x5 x6 h (ix3 0 0 i)
    = chunkScales x0 x1 x2 x3 x4 x5 x6 h ⟨i.val / 32, by omega⟩ (ix2 ⟨i.val % 32, by omega⟩ 0) := by
  have key : ∀ (Y : FVec Ideal S256x1 .f32), shapeCast S1x1x256 (transpose S1x256 [1, 0] Y
    transposes_S256x1_p1_0_S1x256) shapeCasts_S1x256_S1x1x256 (ix3 0 0 i) = Y (ix2 i 0) := by
    intro Y; pointwise []
  unfold scaleRow
  rw [key]
  exact concatenate_ofFn_apply (t := S256x1) (s₁ := S32x1) (0 : Fin 2) (fun c : Fin 8 => chunkScales x0 x1 x2 x3 x4 x5 x6 h c) _ rfl 32 rfl (ix2 i 0) _ rfl _ rfl (by
    intro a ha
    match a with
    | ⟨0, _⟩ => exact absurd rfl ha
    | ⟨1, _⟩ => rfl)

/-! ### The entries as the step's -/

theorem qn_entry (h : Fin 6) (i : Fin 256) : qn x0 (ix2 h i) = Step.query (fun i => x0 (ix4 0 0 h i)) i := by
  pointwise [qn, k0_pay4]; rfl

theorem kn_entry (h : Fin 6) (i : Fin 256) : kn x1 (ix2 h i) = Step.unit (fun i => x1 (ix4 0 0 h i)) i := by
  pointwise [kn, k0_pay5]; rfl

theorem sc_entry (h : Fin 6) (i : Fin 256) : sc x6 (ix2 h i) = x6 (ix3 0 h i) := by
  pointwise [sc, k0_pay6]

/-- A row picked by a one-hot sum. -/
theorem sum_pick (f : Fin 6 → EReal) (h : Fin 6) :
    (∑ x : Fin 6, Scalar.select (IntOp.cmpi .eq (BitVec.ofNat 32 h.val) (BitVec.ofNat 32 x.val)) (f x) 0) = f h := by
  rw [Finset.sum_eq_single h]
  · have : IntOp.cmpi .eq (BitVec.ofNat 32 h.val) (BitVec.ofNat 32 h.val) = 1#1 := by revert h; decide
    rw [this]; rfl
  · intro x _ hx
    have : IntOp.cmpi .eq (BitVec.ofNat 32 h.val) (BitVec.ofNat 32 x.val) = 0#1 := by revert h x; decide
    rw [this]; rfl
  · intro hh; exact absurd (Finset.mem_univ h) hh

theorem decay_entry (h : Fin 6) : decay x3 (ix2 h 0) = Ideal.exp (x3 (ix3 0 0 h)) := by
  pointwise [decay, k0_pay7, k0_pay8, k0_pay9]
  exact congrArg Ideal.exp (sum_pick (fun x => x3 (ix3 0 0 x)) h)

theorem strength_entry (h : Fin 6) : strength x4 (ix2 h 0) = x4 (ix3 0 0 h) := by
  pointwise [strength, k0_pay10]
  exact sum_pick (fun x => x4 (ix3 0 0 x)) h

theorem vrows_entry (h : Fin 6) (j : Fin 512) : vrows x2 (ix2 h j) = x2 (ix4 0 0 h j) := by
  pointwise [vrows, k0_pay11]

theorem knScaled_entry (h : Fin 6) (i : Fin 256) : knScaled x1 x6 (ix2 h i) = kn x1 (ix2 h i) * sc x6 (ix2 h i) := by
  pointwise [knScaled, k0_pay12]

theorem qnScaled_entry (h : Fin 6) (i : Fin 256) : qnScaled x0 x6 (ix2 h i) = qn x0 (ix2 h i) * sc x6 (ix2 h i) := by
  pointwise [qnScaled, k0_pay13]

theorem qkDot_entry (h : Fin 6) : qkDot x0 x1 (ix2 h 0) = ∑ i : Fin 256, qn x0 (ix2 h i) * kn x1 (ix2 h i) := by
  pointwise [qkDot, k0_pay14]

theorem knCols_entry (h : Fin 6) (i : Fin 256) : knCols x1 (ix2 i h) = kn x1 (ix2 h i) := by
  pointwise [knCols, k0_pay15]

theorem decayCols_entry (h : Fin 6) (i : Fin 256) : decayCols x3 x6 (ix2 i h) = decay x3 (ix2 h 0) * sc x6 (ix2 h i) := by
  pointwise [decayCols, k0_pay16, decay]

theorem delta_entry' (h : Fin 6) (j : Fin 512) : delta x0 x1 x2 x3 x4 x5 x6 h (ix2 0 j)
    = strength x4 (ix2 h 0) * (vrows x2 (ix2 h j) - decay x3 (ix2 h 0) * products x0 x1 x5 x6 h (ix2 0 j)) := by
  pointwise [delta]

theorem outRow_entry' (h : Fin 6) (j : Fin 512) : outRow x0 x1 x2 x3 x4 x5 x6 h (ix4 0 0 0 j)
    = decay x3 (ix2 h 0) * products x0 x1 x5 x6 h (ix2 1 j) + qkDot x0 x1 (ix2 h 0) * delta x0 x1 x2 x3 x4 x5 x6 h (ix2 0 j) := by
  pointwise [outRow]

theorem rowMax_entry (s : FVec Ideal S32x512 .f32) (r : Fin 32) : rowMax s (ix2 r 0) = Step.amax (fun j => s (ix2 r j)) := by
  pointwise [rowMax]; rfl

theorem scaleBits_entry (a : FVec Ideal S32x1 .f32) (r : Fin 32) : scaleBits a (ix2 r 0) = Step.scaleWord (a (ix2 r 0)) := by
  pointwise [scaleBits, expBits, fields]; rfl

theorem scaleCol_entry (s : FVec Ideal S32x512 .f32) (r : Fin 32) : scaleCol s (ix2 r 0) = Step.scale (fun j => s (ix2 r j)) := by
  have e : scaleCol s (ix2 r 0) = Ideal.ofBits .f32 (scaleBits (rowMax s) (ix2 r 0)) := by pointwise [scaleCol]
  rw [e, scaleBits_entry, rowMax_entry]
  exact (Step.scaleWord_spec _ (Step.amax_nonneg _)).1

theorem codesOf_entry (s : FVec Ideal S32x512 .f32) (r : Fin 32) (j : Fin 512) :
    codesOf s (ix4 0 0 r j) = Step.code (fun j => s (ix2 r j)) j := by
  have e : codesOf s (ix4 0 0 r j) = min (Ideal.ofBits .f32 0x43E00000#32) (max (Ideal.ofBits .f32 0xC3E00000#32)
      (s (ix2 r j) * Ideal.ofBits .f32 (IntOp.subi (2130706432#32) (scaleBits (rowMax s) (ix2 r 0))))) := by pointwise [codesOf]
  rw [e, scaleBits_entry, rowMax_entry, (Step.scaleWord_spec _ (Step.amax_nonneg _)).2]
  rfl

/-- What is written along the key. -/
theorem delta_entry (h : Fin 6) (j : Fin 512) : delta x0 x1 x2 x3 x4 x5 x6 h (ix2 0 j)
    = Step.delta (fun i => x1 (ix4 0 0 h i)) (fun j => x2 (ix4 0 0 h j)) (x3 (ix3 0 0 h)) (x4 (ix3 0 0 h))
        (fun i j => x5 (ix4 0 h i j)) (fun i => x6 (ix3 0 h i)) j := by
  rw [delta_entry', strength_entry, vrows_entry, decay_entry, products_key]
  unfold Step.delta Step.old
  refine congrArg (fun z => _ * (_ - _ * z)) (Finset.sum_congr rfl fun i _ => ?_)
  rw [knScaled_entry, kn_entry, sc_entry, mul_assoc, mul_comm (x6 _)]

/-- The output's block. -/
theorem out0_7_entry (h : Fin 6) (j : Fin 512) : out0_7 x0 x1 x2 x3 x4 x5 x6 (ix4 0 0 h j)
    = Step.out (fun i => x0 (ix4 0 0 h i)) (fun i => x1 (ix4 0 0 h i)) (fun j => x2 (ix4 0 0 h j)) (x3 (ix3 0 0 h)) (x4 (ix3 0 0 h))
        (fun i j => x5 (ix4 0 h i j)) (fun i => x6 (ix3 0 h i)) j := by
  show outRow x0 x1 x2 x3 x4 x5 x6 h (ix4 0 0 0 j) = _
  rw [outRow_entry', decay_entry, delta_entry, products_query, qkDot_entry]
  unfold Step.out
  refine congrArg₂ (fun z w => _ * z + w * _) (Finset.sum_congr rfl fun i _ => ?_) (Finset.sum_congr rfl fun i _ => ?_)
  · rw [qnScaled_entry, qn_entry, sc_entry, mul_assoc, mul_comm (x6 _)]; rfl
  · rw [qn_entry, kn_entry]

/-- The new state. -/
theorem chunkState_step (h : Fin 6) (c : Fin 8) (r : Fin 32) (i : Fin 256) (hi : 32 * c.val + r.val = i.val) (j : Fin 512) :
    chunkState x0 x1 x2 x3 x4 x5 x6 h c (ix2 r j)
      = Step.state (fun i => x1 (ix4 0 0 h i)) (fun j => x2 (ix4 0 0 h j)) (x3 (ix3 0 0 h)) (x4 (ix3 0 0 h))
        (fun i j => x5 (ix4 0 h i j)) (fun i => x6 (ix3 0 h i)) i j := by
  rw [chunkState_entry, show (⟨32 * c.val + r.val, by omega⟩ : Fin 256) = i from Fin.ext hi, decayCols_entry, knCols_entry, decay_entry, sc_entry,
    kn_entry, delta_entry, mul_assoc, mul_comm (x6 _)]
  rfl

/-- The new codes' block. -/
theorem out0_8_entry (h : Fin 6) (i : Fin 256) (j : Fin 512) : out0_8 x0 x1 x2 x3 x4 x5 x6 (ix4 0 h i j)
    = Step.code (Step.state (fun i => x1 (ix4 0 0 h i)) (fun j => x2 (ix4 0 0 h j)) (x3 (ix3 0 0 h)) (x4 (ix3 0 0 h))
        (fun i j => x5 (ix4 0 h i j)) (fun i => x6 (ix3 0 h i)) i) j := by
  show codesOf (chunkState x0 x1 x2 x3 x4 x5 x6 h ⟨i.val / 32, by omega⟩) (ix4 0 0 ⟨i.val % 32, by omega⟩ j) = _
  rw [codesOf_entry]
  exact congrArg (fun s => Step.code s j) (funext fun j => chunkState_step x0 x1 x2 x3 x4 x5 x6 h _ _ i (by
    show 32 * (i.val / 32) + i.val % 32 = i.val; omega) j)

/-- The new scales' block. -/
theorem out0_9_entry (h : Fin 6) (i : Fin 256) : out0_9 x0 x1 x2 x3 x4 x5 x6 (ix3 0 h i)
    = Step.scale (Step.state (fun i => x1 (ix4 0 0 h i)) (fun j => x2 (ix4 0 0 h j)) (x3 (ix3 0 0 h)) (x4 (ix3 0 0 h))
        (fun i j => x5 (ix4 0 h i j)) (fun i => x6 (ix3 0 h i)) i) := by
  show scaleRow x0 x1 x2 x3 x4 x5 x6 h (ix3 0 0 i) = _
  rw [scaleRow_entry]
  unfold chunkScales
  rw [scaleCol_entry]
  exact congrArg Step.scale (funext fun j => chunkState_step x0 x1 x2 x3 x4 x5 x6 h _ _ i (by
    show 32 * (i.val / 32) + i.val % 32 = i.val; omega) j)

end Cert.KernelIdeal.Gen

end
-- ==== Proof.Value.Layer.lean ====
/- The three results of the decode step over the whole batch: each sequence's heads run the gated delta rule's step on the
   pool's slot that the table names. -/
module

public import proofs.«01_k».proof.Proof.Value.Step

@[expose] public section

noncomputable section

namespace Cert.Layer

open Idealize.ShloMosaic

/-- The pool's slot a table's word names. -/
def slot (w : BitVec 32) : Fin 180 := ⟨w.toNat % 180, Nat.mod_lt _ (by decide)⟩

variable (q k : Fin 144 → Fin 6 → Fin 256 → EReal) (v : Fin 144 → Fin 6 → Fin 512 → EReal) (g β : Fin 144 → Fin 6 → EReal)
  (codes : Fin 180 → Fin 6 → Fin 256 → Fin 512 → EReal) (scales : Fin 180 → Fin 6 → Fin 256 → EReal) (words : Fin 144 → BitVec 32)

/-- The output of a sequence's head. -/
def out (b : Fin 144) (h : Fin 6) (j : Fin 512) : EReal :=
  Step.out (q b h) (k b h) (v b h) (g b h) (β b h) (codes (slot (words b)) h) (scales (slot (words b)) h) j

/-- The new state of a sequence's head, before it is quantised. -/
def state (b : Fin 144) (h : Fin 6) (i : Fin 256) (j : Fin 512) : EReal :=
  Step.state (k b h) (v b h) (g b h) (β b h) (codes (slot (words b)) h) (scales (slot (words b)) h) i j

/-- The new codes of a sequence's head. -/
def code (b : Fin 144) (h : Fin 6) (i : Fin 256) (j : Fin 512) : EReal :=
  Step.code (state k v g β codes scales words b h i) j

/-- The new scales of a sequence's head. -/
def scale (b : Fin 144) (h : Fin 6) (i : Fin 256) : EReal :=
  Step.scale (state k v g β codes scales words b h i)

end Cert.Layer

end
-- ==== Proof.KernelIdeal.Final.lean ====
/- The result arrays after the run, entry by entry: what each grid point's blocks hold, point by point. -/
module

public import proofs.«01_k».proof.Proof.KernelIdeal.Values
public import proofs.«01_k».proof.Proof.KernelIdeal.Frame
public import proofs.«01_k».proof.Proof.KernelIdeal.Ok
public import proofs.«01_k».proof.Proof.KernelIdeal.Entries
public import proofs.«01_k».proof.Proof.Value.Layer
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The grid point of a sequence. -/
abbrev pt (b : Fin 144) : Fin grid0.N := ⟨b.val, b.isLt⟩

theorem coord_pt : ∀ t : Fin grid0.N, ((grid0.coords t) 0).val = t.val := by decide +kernel

theorem point_word : ∀ t : Fin grid0.N, (BitVec.ofNat 32 ((grid0.coords t) 0).val).toNat = t.val := by decide +kernel

/-! ### Where a block lies -/

theorem emb0 (hO : Ok m) (t : Fin (cfgM m hO).N) (h : Fin 6) (i : Fin 256) :
    (((cfgM m hO).win 0).blk t).view.emb (ix4 (0 : Fin 1) (0 : Fin 1) h i : S1x1x6x256.Idx) = (ix4 (⟨t.val, t.isLt⟩ : Fin 144) (0 : Fin 1) h i : S144x1x6x256.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 1 + 1 * 0 = 0; omega
  | ⟨2, _⟩ => show 0 * 6 + 1 * h.val = h.val; omega
  | ⟨3, _⟩ => show 0 * 256 + 1 * i.val = i.val; omega

theorem emb1 (hO : Ok m) (t : Fin (cfgM m hO).N) (h : Fin 6) (i : Fin 256) :
    (((cfgM m hO).win 1).blk t).view.emb (ix4 (0 : Fin 1) (0 : Fin 1) h i : S1x1x6x256.Idx) = (ix4 (⟨t.val, t.isLt⟩ : Fin 144) (0 : Fin 1) h i : S144x1x6x256.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 1 + 1 * 0 = 0; omega
  | ⟨2, _⟩ => show 0 * 6 + 1 * h.val = h.val; omega
  | ⟨3, _⟩ => show 0 * 256 + 1 * i.val = i.val; omega

theorem emb2 (hO : Ok m) (t : Fin (cfgM m hO).N) (h : Fin 6) (i : Fin 512) :
    (((cfgM m hO).win 2).blk t).view.emb (ix4 (0 : Fin 1) (0 : Fin 1) h i : S1x1x6x512.Idx) = (ix4 (⟨t.val, t.isLt⟩ : Fin 144) (0 : Fin 1) h i : S144x1x6x512.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 1 + 1 * 0 = 0; omega
  | ⟨2, _⟩ => show 0 * 6 + 1 * h.val = h.val; omega
  | ⟨3, _⟩ => show 0 * 512 + 1 * i.val = i.val; omega

theorem emb3 (hO : Ok m) (t : Fin (cfgM m hO).N) (h : Fin 6) :
    (((cfgM m hO).win 3).blk t).view.emb (ix3 (0 : Fin 1) (0 : Fin 1) h : S1x1x6.Idx) = (ix3 (⟨t.val, t.isLt⟩ : Fin 144) (0 : Fin 1) h : S144x1x6.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 1 + 1 * 0 = 0; omega
  | ⟨2, _⟩ => show 0 * 6 + 1 * h.val = h.val; omega

theorem emb4 (hO : Ok m) (t : Fin (cfgM m hO).N) (h : Fin 6) :
    (((cfgM m hO).win 4).blk t).view.emb (ix3 (0 : Fin 1) (0 : Fin 1) h : S1x1x6.Idx) = (ix3 (⟨t.val, t.isLt⟩ : Fin 144) (0 : Fin 1) h : S144x1x6.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 1 + 1 * 0 = 0; omega
  | ⟨2, _⟩ => show 0 * 6 + 1 * h.val = h.val; omega

theorem emb7 (hO : Ok m) (t : Fin (cfgM m hO).N) (h : Fin 6) (i : Fin 512) :
    (((cfgM m hO).win 7).blk t).view.emb (ix4 (0 : Fin 1) (0 : Fin 1) h i : S1x1x6x512.Idx) = (ix4 (⟨t.val, t.isLt⟩ : Fin 144) (0 : Fin 1) h i : S144x1x6x512.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 1 + 1 * 0 = 0; omega
  | ⟨2, _⟩ => show 0 * 6 + 1 * h.val = h.val; omega
  | ⟨3, _⟩ => show 0 * 512 + 1 * i.val = i.val; omega

theorem emb8 (hO : Ok m) (t : Fin (cfgM m hO).N) (h : Fin 6) (i : Fin 256) (j : Fin 512) :
    (((cfgM m hO).win 8).blk t).view.emb (ix4 (0 : Fin 1) h i j : S1x6x256x512.Idx) = (ix4 (⟨t.val, t.isLt⟩ : Fin 144) h i j : S144x6x256x512.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 6 + 1 * h.val = h.val; omega
  | ⟨2, _⟩ => show 0 * 256 + 1 * i.val = i.val; omega
  | ⟨3, _⟩ => show 0 * 512 + 1 * j.val = j.val; omega

theorem emb9 (hO : Ok m) (t : Fin (cfgM m hO).N) (h : Fin 6) (i : Fin 256) :
    (((cfgM m hO).win 9).blk t).view.emb (ix3 (0 : Fin 1) h i : S1x6x256.Idx) = (ix3 (⟨t.val, t.isLt⟩ : Fin 144) h i : S144x6x256.Idx) := by
  have hp : (BitVec.ofNat 32 ((grid0.coords t) 0).val).toNat = t.val := point_word t
  funext a; apply Fin.ext
  match a with
  | ⟨0, _⟩ => show (BitVec.ofNat 32 ((grid0.coords t) 0).val).toNat * 1 + 1 * 0 = t.val; omega
  | ⟨1, _⟩ => show 0 * 6 + 1 * h.val = h.val; omega
  | ⟨2, _⟩ => show 0 * 256 + 1 * i.val = i.val; omega

/-- The slot a grid point names is the table's word at the point. -/
theorem slotAt_pt (t : Fin grid0.N) : slotAt (F := Ideal) (tbl m) (grid0.coords t)
    = (tbl m 0 : S144.Idx → BitVec 32) (ix1 (⟨t.val, t.isLt⟩ : Fin 144)) := by
  show (tbl m 0 : S144.Idx → BitVec 32) _ = _
  refine congrArg (tbl m 0 : S144.Idx → BitVec 32) (funext fun a => Fin.ext ?_)
  match a with
  | ⟨0, _⟩ =>
    show (BitVec.ofNat 32 ((grid0.coords t) 0).val).toNat + 1 * 0 = t.val
    have := point_word t; omega

/-- Every slot number is below 180. -/
abbrev Below : Prop := ∀ x : S144.Idx, ((tbl m 0 : S144.Idx → BitVec 32) x).toNat < 180

/-- The slot of a grid point. -/
abbrev slotOf (t : Fin grid0.N) : Fin 180 := Layer.slot ((tbl m 0 : S144.Idx → BitVec 32) (ix1 (⟨t.val, t.isLt⟩ : Fin 144)))

theorem slotAt_val (hs : Below m) (t : Fin grid0.N) : (slotAt (F := Ideal) (tbl m) (grid0.coords t)).toNat = (slotOf m t).val := by
  rw [slotAt_pt]
  exact (Nat.mod_eq_of_lt (hs _)).symm

theorem emb5 (hs : Below m) (hO : Ok m) (t : Fin (cfgM m hO).N) (h : Fin 6) (i : Fin 256) (j : Fin 512) :
    (((cfgM m hO).win 5).blk t).view.emb (ix4 (0 : Fin 1) h i j : S1x6x256x512.Idx) = (ix4 (slotOf m t) h i j : S180x6x256x512.Idx) := by
  have hp := slotAt_val m hs t
  funext a; apply Fin.ext
  match a with
  | ⟨0, _⟩ =>
    show (slotAt (F := Ideal) (tbl m) (grid0.coords t)).toNat * 1 + 1 * 0 = (slotOf m t).val
    omega
  | ⟨1, _⟩ => show 0 * 6 + 1 * h.val = h.val; omega
  | ⟨2, _⟩ => show 0 * 256 + 1 * i.val = i.val; omega
  | ⟨3, _⟩ => show 0 * 512 + 1 * j.val = j.val; omega

theorem emb6 (hs : Below m) (hO : Ok m) (t : Fin (cfgM m hO).N) (h : Fin 6) (i : Fin 256) :
    (((cfgM m hO).win 6).blk t).view.emb (ix3 (0 : Fin 1) h i : S1x6x256.Idx) = (ix3 (slotOf m t) h i : S180x6x256.Idx) := by
  have hp := slotAt_val m hs t
  funext a; apply Fin.ext
  match a with
  | ⟨0, _⟩ =>
    show (slotAt (F := Ideal) (tbl m) (grid0.coords t)).toNat * 1 + 1 * 0 = (slotOf m t).val
    omega
  | ⟨1, _⟩ => show 0 * 6 + 1 * h.val = h.val; omega
  | ⟨2, _⟩ => show 0 * 256 + 1 * i.val = i.val; omega

/-! ### The inputs' blocks -/

theorem iblk0 (hO : Ok m) (c : Dev nD) (t : Fin (cfgM m hO).N) (h : Fin 6) (i : Fin 256) : (iblk m hO c 0 t : S1x1x6x256.Idx → EReal) (ix4 (0 : Fin 1) (0 : Fin 1) h i)
    = (m ((c.tc : Thread nD τ).loc main_arg0) : S144x1x6x256.Idx → EReal) (ix4 (⟨t.val, t.isLt⟩ : Fin 144) (0 : Fin 1) h i) :=
  congrArg (m ((c.tc : Thread nD τ).loc main_arg0) : S144x1x6x256.Idx → EReal) (emb0 m hO t h i)

theorem iblk1 (hO : Ok m) (c : Dev nD) (t : Fin (cfgM m hO).N) (h : Fin 6) (i : Fin 256) : (iblk m hO c 1 t : S1x1x6x256.Idx → EReal) (ix4 (0 : Fin 1) (0 : Fin 1) h i)
    = (m ((c.tc : Thread nD τ).loc main_arg1) : S144x1x6x256.Idx → EReal) (ix4 (⟨t.val, t.isLt⟩ : Fin 144) (0 : Fin 1) h i) :=
  congrArg (m ((c.tc : Thread nD τ).loc main_arg1) : S144x1x6x256.Idx → EReal) (emb1 m hO t h i)

theorem iblk2 (hO : Ok m) (c : Dev nD) (t : Fin (cfgM m hO).N) (h : Fin 6) (i : Fin 512) : (iblk m hO c 2 t : S1x1x6x512.Idx → EReal) (ix4 (0 : Fin 1) (0 : Fin 1) h i)
    = (m ((c.tc : Thread nD τ).loc main_arg2) : S144x1x6x512.Idx → EReal) (ix4 (⟨t.val, t.isLt⟩ : Fin 144) (0 : Fin 1) h i) :=
  congrArg (m ((c.tc : Thread nD τ).loc main_arg2) : S144x1x6x512.Idx → EReal) (emb2 m hO t h i)

theorem iblk3 (hO : Ok m) (c : Dev nD) (t : Fin (cfgM m hO).N) (h : Fin 6) : (iblk m hO c 3 t : S1x1x6.Idx → EReal) (ix3 (0 : Fin 1) (0 : Fin 1) h)
    = (m ((c.tc : Thread nD τ).loc main_arg3) : S144x1x6.Idx → EReal) (ix3 (⟨t.val, t.isLt⟩ : Fin 144) (0 : Fin 1) h) :=
  congrArg (m ((c.tc : Thread nD τ).loc main_arg3) : S144x1x6.Idx → EReal) (emb3 m hO t h)

theorem iblk4 (hO : Ok m) (c : Dev nD) (t : Fin (cfgM m hO).N) (h : Fin 6) : (iblk m hO c 4 t : S1x1x6.Idx → EReal) (ix3 (0 : Fin 1) (0 : Fin 1) h)
    = (m ((c.tc : Thread nD τ).loc main_arg4) : S144x1x6.Idx → EReal) (ix3 (⟨t.val, t.isLt⟩ : Fin 144) (0 : Fin 1) h) :=
  congrArg (m ((c.tc : Thread nD τ).loc main_arg4) : S144x1x6.Idx → EReal) (emb4 m hO t h)

theorem iblk5 (hs : Below m) (hO : Ok m) (c : Dev nD) (t : Fin (cfgM m hO).N) (h : Fin 6) (i : Fin 256) (j : Fin 512) : (iblk m hO c 5 t : S1x6x256x512.Idx → EReal) (ix4 (0 : Fin 1) h i j)
    = (m ((c.tc : Thread nD τ).loc main_arg5) : S180x6x256x512.Idx → EReal) (ix4 (slotOf m t) h i j) :=
  congrArg (m ((c.tc : Thread nD τ).loc main_arg5) : S180x6x256x512.Idx → EReal) (emb5 m hs hO t h i j)

theorem iblk6 (hs : Below m) (hO : Ok m) (c : Dev nD) (t : Fin (cfgM m hO).N) (h : Fin 6) (i : Fin 256) : (iblk m hO c 6 t : S1x6x256.Idx → EReal) (ix3 (0 : Fin 1) h i)
    = (m ((c.tc : Thread nD τ).loc main_arg6) : S180x6x256.Idx → EReal) (ix3 (slotOf m t) h i) :=
  congrArg (m ((c.tc : Thread nD τ).loc main_arg6) : S180x6x256.Idx → EReal) (emb6 m hs hO t h i)

/-! ### The result arrays -/

variable (c : Dev nD)

/-- The arguments, coordinate by coordinate. -/
abbrev argQ (b : Fin 144) (h : Fin 6) (i : Fin 256) : EReal := (m ((c.tc : Thread nD τ).loc main_arg0) : S144x1x6x256.Idx → EReal) (ix4 b (0 : Fin 1) h i)
abbrev argK (b : Fin 144) (h : Fin 6) (i : Fin 256) : EReal := (m ((c.tc : Thread nD τ).loc main_arg1) : S144x1x6x256.Idx → EReal) (ix4 b (0 : Fin 1) h i)
abbrev argV (b : Fin 144) (h : Fin 6) (j : Fin 512) : EReal := (m ((c.tc : Thread nD τ).loc main_arg2) : S144x1x6x512.Idx → EReal) (ix4 b (0 : Fin 1) h j)
abbrev argG (b : Fin 144) (h : Fin 6) : EReal := (m ((c.tc : Thread nD τ).loc main_arg3) : S144x1x6.Idx → EReal) (ix3 b (0 : Fin 1) h)
abbrev argB (b : Fin 144) (h : Fin 6) : EReal := (m ((c.tc : Thread nD τ).loc main_arg4) : S144x1x6.Idx → EReal) (ix3 b (0 : Fin 1) h)
abbrev argC (s : Fin 180) (h : Fin 6) (i : Fin 256) (j : Fin 512) : EReal := (m ((c.tc : Thread nD τ).loc main_arg5) : S180x6x256x512.Idx → EReal) (ix4 s h i j)
abbrev argS (s : Fin 180) (h : Fin 6) (i : Fin 256) : EReal := (m ((c.tc : Thread nD τ).loc main_arg6) : S180x6x256.Idx → EReal) (ix3 s h i)
abbrev argW (b : Fin 144) : BitVec 32 := (m ((c.tc : Thread nD τ).loc main_arg7) : S144.Idx → BitVec 32) (ix1 b)

/-- The output array. -/
def G7 : Buf (Elt Ideal) ((c.tc : Thread nD τ).loc main_v0_0) := fun y : S144x1x6x512.Idx =>
  Layer.out (argQ m c) (argK m c) (argV m c) (argG m c) (argB m c) (argC m c) (argS m c) (argW m c) (y 0) (y 2) (y 3)

/-- The new codes' array. -/
def G8 : Buf (Elt Ideal) ((c.tc : Thread nD τ).loc main_v0_1) := fun y : S144x6x256x512.Idx =>
  Layer.code (argK m c) (argV m c) (argG m c) (argB m c) (argC m c) (argS m c) (argW m c) (y 0) (y 1) (y 2) (y 3)

/-- The new scales' array. -/
def G9 : Buf (Elt Ideal) ((c.tc : Thread nD τ).loc main_v0_2) := fun y : S144x6x256.Idx =>
  Layer.scale (argK m c) (argV m c) (argG m c) (argB m c) (argC m c) (argS m c) (argW m c) (y 0) (y 1) (y 2)

/-- A step's output from equal operands. -/
theorem out_congr {q q' k k' : Fin 256 → EReal} {v v' : Fin 512 → EReal} {g g' β β' : EReal} {co co' : Fin 256 → Fin 512 → EReal} {sc sc' : Fin 256 → EReal}
    (hq : ∀ i, q i = q' i) (hk : ∀ i, k i = k' i) (hv : ∀ j, v j = v' j) (hg : g = g') (hb : β = β') (hc : ∀ i j, co i j = co' i j) (hs : ∀ i, sc i = sc' i)
    (j : Fin 512) : Step.out q k v g β co sc j = Step.out q' k' v' g' β' co' sc' j := by
  obtain rfl := funext hq; obtain rfl := funext hk; obtain rfl := funext hv; subst hg hb
  obtain rfl := funext fun i => funext (hc i); obtain rfl := funext hs; rfl

/-- A step's new state from equal operands. -/
theorem state_congr {k k' : Fin 256 → EReal} {v v' : Fin 512 → EReal} {g g' β β' : EReal} {co co' : Fin 256 → Fin 512 → EReal} {sc sc' : Fin 256 → EReal}
    (hk : ∀ i, k i = k' i) (hv : ∀ j, v j = v' j) (hg : g = g') (hb : β = β') (hc : ∀ i j, co i j = co' i j) (hs : ∀ i, sc i = sc' i)
    (i : Fin 256) : Step.state k v g β co sc i = Step.state k' v' g' β' co' sc' i := by
  obtain rfl := funext hk; obtain rfl := funext hv; subst hg hb
  obtain rfl := funext fun i => funext (hc i); obtain rfl := funext hs; rfl

theorem flushed7 (hs : Below m) (hO : Ok m) (t : Fin (cfgM m hO).N) :
    (dats m hO 0 c).flushed 7 t = (((cfgM m hO).win 7).blk t).view.read (Elt Ideal) (G7 m c) := by
  show ((cfgM m hO).win 7).cut (grid0.coords t) ((dats m hO 0 c).after 7 t) = _
  rw [after0_7]
  obtain rfl : c = 0 := Subsingleton.elim _ _
  refine funext fun (j : S1x1x6x512.Idx) => ?_
  idx_vars j
  obtain rfl : j0 = 0 := Subsingleton.elim _ _
  obtain rfl : j1 = 0 := Subsingleton.elim _ _
  have e : (((cfgM m hO).win 7).xinj (grid0.coords t) (ix4 0 0 j2 j3 : S1x1x6x512.Idx) : S1x1x6x512.Idx) = ix4 0 0 j2 j3 := funext fun a => Fin.ext rfl
  show out0_7 (iblk m hO 0 0 t) (iblk m hO 0 1 t) (iblk m hO 0 2 t) (iblk m hO 0 3 t) (iblk m hO 0 4 t) (iblk m hO 0 5 t) (iblk m hO 0 6 t) _
    = G7 m 0 ((((cfgM m hO).win 7).blk t).view.emb _)
  refine (congrArg _ e).trans ((out0_7_entry _ _ _ _ _ _ _ j2 j3).trans (Eq.trans ?_ (congrArg (G7 m 0) (emb7 m hO t j2 j3)).symm))
  exact out_congr (iblk0 m hO 0 t j2) (iblk1 m hO 0 t j2) (iblk2 m hO 0 t j2) (iblk3 m hO 0 t j2) (iblk4 m hO 0 t j2)
    (iblk5 m hs hO 0 t j2) (iblk6 m hs hO 0 t j2) j3

theorem flushed8 (hs : Below m) (hO : Ok m) (t : Fin (cfgM m hO).N) :
    (dats m hO 0 c).flushed 8 t = (((cfgM m hO).win 8).blk t).view.read (Elt Ideal) (G8 m c) := by
  show ((cfgM m hO).win 8).cut (grid0.coords t) ((dats m hO 0 c).after 8 t) = _
  rw [after0_8]
  obtain rfl : c = 0 := Subsingleton.elim _ _
  refine funext fun (j : S1x6x256x512.Idx) => ?_
  idx_vars j
  obtain rfl : j0 = 0 := Subsingleton.elim _ _
  have e : (((cfgM m hO).win 8).xinj (grid0.coords t) (ix4 0 j1 j2 j3 : S1x6x256x512.Idx) : S1x6x256x512.Idx) = ix4 0 j1 j2 j3 := funext fun a => Fin.ext rfl
  show out0_8 (iblk m hO 0 0 t) (iblk m hO 0 1 t) (iblk m hO 0 2 t) (iblk m hO 0 3 t) (iblk m hO 0 4 t) (iblk m hO 0 5 t) (iblk m hO 0 6 t) _
    = G8 m 0 ((((cfgM m hO).win 8).blk t).view.emb _)
  refine (congrArg _ e).trans ((out0_8_entry _ _ _ _ _ _ _ j1 j2 j3).trans (Eq.trans ?_ (congrArg (G8 m 0) (emb8 m hO t j1 j2 j3)).symm))
  exact congrArg (fun s => Step.code s j3) (state_congr (iblk1 m hO 0 t j1) (iblk2 m hO 0 t j1) (iblk3 m hO 0 t j1) (iblk4 m hO 0 t j1)
    (iblk5 m hs hO 0 t j1) (iblk6 m hs hO 0 t j1) j2)

theorem flushed9 (hs : Below m) (hO : Ok m) (t : Fin (cfgM m hO).N) :
    (dats m hO 0 c).flushed 9 t = (((cfgM m hO).win 9).blk t).view.read (Elt Ideal) (G9 m c) := by
  show ((cfgM m hO).win 9).cut (grid0.coords t) ((dats m hO 0 c).after 9 t) = _
  rw [after0_9]
  obtain rfl : c = 0 := Subsingleton.elim _ _
  refine funext fun (j : S1x6x256.Idx) => ?_
  idx_vars j
  obtain rfl : j0 = 0 := Subsingleton.elim _ _
  have e : (((cfgM m hO).win 9).xinj (grid0.coords t) (ix3 0 j1 j2 : S1x6x256.Idx) : S1x6x256.Idx) = ix3 0 j1 j2 := funext fun a => Fin.ext rfl
  show out0_9 (iblk m hO 0 0 t) (iblk m hO 0 1 t) (iblk m hO 0 2 t) (iblk m hO 0 3 t) (iblk m hO 0 4 t) (iblk m hO 0 5 t) (iblk m hO 0 6 t) _
    = G9 m 0 ((((cfgM m hO).win 9).blk t).view.emb _)
  refine (congrArg _ e).trans ((out0_9_entry _ _ _ _ _ _ _ j1 j2).trans (Eq.trans ?_ (congrArg (G9 m 0) (emb9 m hO t j1 j2)).symm))
  exact congrArg Step.scale (state_congr (iblk1 m hO 0 t j1) (iblk2 m hO 0 t j1) (iblk3 m hO 0 t j1) (iblk4 m hO 0 t j1)
    (iblk5 m hs hO 0 t j1) (iblk6 m hs hO 0 t j1) j2)

/-! ### Every entry is in its sequence's block, and every block is written back -/

theorem final7 (hs : Below m) (hO : Ok m) : (dats m hO 0 c).arrAt 7 (cfgM m hO).N = G7 m c := by
  refine (dats m hO 0 c).arrAt_eq_of_cover 7 _ (fun t _ => flushed7 m c hs hO t) fun (y : S144x1x6x512.Idx) => ⟨pt (y 0), ?_, ?_⟩
  · exact flush0_7 (adm m hO) (pt (y 0))
  · idx_vars y
    obtain rfl : y1 = 0 := Subsingleton.elim _ _
    exact (emb7 m hO (pt y0) y2 y3) ▸ View.emb_mem_set _ _

theorem final8 (hs : Below m) (hO : Ok m) : (dats m hO 0 c).arrAt 8 (cfgM m hO).N = G8 m c := by
  refine (dats m hO 0 c).arrAt_eq_of_cover 8 _ (fun t _ => flushed8 m c hs hO t) fun (y : S144x6x256x512.Idx) => ⟨pt (y 0), ?_, ?_⟩
  · exact flush0_8 (adm m hO) (pt (y 0))
  · idx_vars y
    exact (emb8 m hO (pt y0) y1 y2 y3) ▸ View.emb_mem_set _ _

theorem final9 (hs : Below m) (hO : Ok m) : (dats m hO 0 c).arrAt 9 (cfgM m hO).N = G9 m c := by
  refine (dats m hO 0 c).arrAt_eq_of_cover 9 _ (fun t _ => flushed9 m c hs hO t) fun (y : S144x6x256.Idx) => ⟨pt (y 0), ?_, ?_⟩
  · exact flush0_9 (adm m hO) (pt (y 0))
  · idx_vars y
    exact (emb9 m hO (pt y0) y1 y2) ▸ View.emb_mem_set _ _

/-- Every run ends with the three results at the layer's, and the arguments as they were. -/
theorem run (hs : Below m) (hO : Ok m) : θ_run defs (onTc (τ := τ) (main (F := Ideal))) ⟨m, fun _ => 0, ρ⟩ (fun r => ∀ c : Dev nD,
      r.2.mem ((c.tc : Thread nD τ).loc main_v0_0) = G7 m c
      ∧ r.2.mem ((c.tc : Thread nD τ).loc main_v0_1) = G8 m c
      ∧ r.2.mem ((c.tc : Thread nD τ).loc main_v0_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 7).trans (final7 m c hs hO), ((h.1 c).1 8).trans (final8 m c hs hO),
      ((h.1 c).1 9).trans (final9 m c hs hO), h.2 c⟩)
    (θ_run_and (run_main m ρ hO) (unchanged m ρ hO))

end Cert.KernelIdeal.Val

end
-- ==== Proof.RefIdeal.Entries.lean ====
/- The reference's last step over the extended reals, entry by entry: each sequence and head is the gated delta rule's step. -/
module

public import proofs.«01_k».proof.Proof.Gen.RefIdeal.Frame
public import proofs.«01_k».proof.Proof.Value.Layer
public import Idealize.ShloMosaic.Lib.Pipeline.Value

@[expose] public section

set_option maxRecDepth 16384

noncomputable section

namespace Cert.RefIdeal.Gen
open Idealize.ShloMosaic Idealize.ShloMosaic.TcCoe Idealize.ShloMosaic.Tactic

theorem zeros4 : (![0, 0, 0, 0] : Fin 4 → Nat) = fun _ => 0 := by decide
theorem zeros3 : (![0, 0, 0] : Fin 3 → Nat) = fun _ => 0 := by decide

variable (x0 : Vec Ideal S144x6x256x512 .fp8e4m3) (x1 : Vec Ideal S144x6x256x1 .f32) (x2 x3 : Vec Ideal S144x6x256x1 .bf16)
  (x4 : Vec Ideal S144x6x1 .f32) (x5 : Vec Ideal S144x6x512 .bf16) (x6 x7 : Vec Ideal S144x6x1 .f32)
  (b : Fin 144) (h : Fin 6) (i : Fin 256) (j : Fin 512)

theorem old_entry : k0_pay2 x0 x1 (ix4 b h i j) = x0 (ix4 b h i j) * x1 (ix4 b h i 0) := by
  pointwise [k0_pay2]

theorem key_entry : k0_pay3 x2 (ix4 b h i 0) = x2 (ix4 b h i 0) := by
  pointwise [k0_pay3]

theorem decay_entry : k0_pay4 x6 (ix3 b h 0) = x6 (ix3 b h 0) := by
  pointwise [k0_pay4]

theorem queryProduct_entry : k0_pay5 x0 x1 x3 (ix3 b h j)
    = ∑ i : Fin 256, x3 (ix4 b h i 0) * (x0 (ix4 b h i j) * x1 (ix4 b h i 0)) := by
  pointwise [k0_pay5, k0_pay2]

theorem delta_entry : k0_pay6 x0 x1 x2 x6 x7 x5 (ix3 b h j)
    = x7 (ix3 b h 0) * (x5 (ix3 b h j) - x6 (ix3 b h 0) * ∑ i : Fin 256, x2 (ix4 b h i 0) * (x0 (ix4 b h i j) * x1 (ix4 b h i 0))) := by
  pointwise [k0_pay6, k0_pay3, k0_pay4, k0_pay2]

theorem output_entry (a : FVec Ideal S144x6x1 .f32) (qs d : FVec Ideal S144x6x512 .f32) :
    k0_pay7 a qs d x4 (ix4 b 0 h j) = a (ix3 b h 0) * qs (ix3 b h j) + x4 (ix3 b h 0) * d (ix3 b h j) := by
  pointwise [k0_pay7]

/-- The rows' largest magnitudes. -/
def amaxes (s : FVec Ideal S144x6x256x512 .f32) : FVec Ideal S144x6x256 .f32 :=
  multiReduction .maximumf [3] S144x6x256 (absf s) 0xFF800000#32 reduces_S144x6x256x512_S144x6x256 (.inl rfl) rfl

theorem amaxes_entry (s : FVec Ideal S144x6x256x512 .f32) : amaxes s (ix3 b h i) = Step.amax fun j => s (ix4 b h i j) := by
  pointwise [amaxes]
  rfl

/-- The exponents of the rows' scales, from the rows' largest magnitudes. -/
def exponents (a : FVec Ideal S144x6x256 .f32) : FVec Ideal S144x6x256 .f32 :=
  select (cmpf .oeq a (broadcast S144x6x256 (Scalar.ofBits .f32 0x00000000#32))) (broadcast S144x6x256 (Scalar.ofBits .f32 0x00000000#32))
    (minimumf (broadcast S144x6x256 (Scalar.ofBits .f32 0x42FC0000#32)) (maximumf (broadcast S144x6x256 (Scalar.ofBits .f32 0xC2FC0000#32))
      (addf (floor (divf (log (mulf a (broadcast S144x6x256 (Scalar.ofBits .f32 0x3B124925#32))))
        (log (broadcast S144x6x256 (Scalar.ofBits .f32 0x40000000#32))))) (broadcast S144x6x256 (Scalar.ofBits .f32 0x3F800000#32)))))

theorem exponents_entry (a : FVec Ideal S144x6x256 .f32) : exponents a (ix3 b h i) = Step.exponent (a (ix3 b h i)) := by
  pointwise [exponents]
  rfl

section
variable (s : FVec Ideal S144x6x256x512 .f32) (k : FVec Ideal S144x6x256x1 .f32) (a : FVec Ideal S144x6x1 .f32) (d : FVec Ideal S144x6x512 .f32)

theorem state_entry : k0_pay8 s k a d (ix4 b h i j)
    = a (ix3 b h 0) * s (ix4 b h i j) + k (ix4 b h i 0) * d (ix3 b h j) := by
  pointwise [k0_pay8]

theorem exponent_eq : k0_pay9 s k a d = exponents (amaxes (k0_pay8 s k a d)) := by
  unfold k0_pay9 exponents amaxes; rfl

theorem exponent_entry : k0_pay9 s k a d (ix3 b h i)
    = Step.exponent (Step.amax fun j => k0_pay8 s k a d (ix4 b h i j)) := by
  rw [exponent_eq, exponents_entry, amaxes_entry]

theorem exp2_entry (e : FVec Ideal S144x6x256 .f32) : exp2 e (ix3 b h i) = Ideal.exp2 (e (ix3 b h i)) := rfl

theorem scale_entry : k0_pay10 s k a d (ix3 b h i)
    = Step.scale fun j => k0_pay8 s k a d (ix4 b h i j) := by
  unfold k0_pay10 Step.scale
  rw [← exponent_entry]
  exact exp2_entry b h i _
end

theorem codes_entry (s : FVec Ideal S144x6x256x512 .f32) (e : FVec Ideal S144x6x256 .f32) :
    k0_pay1 s e (Scalar.ofBits .f32 0x00000000#32) (ix4 b h i j)
      = min (Ideal.ofBits .f32 0x43E00000#32) (max (Ideal.ofBits .f32 0xC3E00000#32) (s (ix4 b h i j) * Ideal.exp2 (-(e (ix3 b h i))))) := by
  pointwise [k0_pay1]
  rw [zero_sub]
  rfl

theorem code_entry (s : FVec Ideal S144x6x256x512 .f32) (k : FVec Ideal S144x6x256x1 .f32) (a : FVec Ideal S144x6x1 .f32) (d : FVec Ideal S144x6x512 .f32) :
    k0_pay1 (k0_pay8 s k a d) (k0_pay9 s k a d) (Scalar.ofBits .f32 0x00000000#32) (ix4 b h i j)
      = Step.code (fun j => k0_pay8 s k a d (ix4 b h i j)) j := by
  rw [codes_entry, exponent_entry]
  unfold Step.code
  rfl

/-! ### What the step leaves in each result's block -/

theorem ld_r0_0 {e : EltTy} (x : S144x6x256x512.Idx → Elt Ideal e) : View.ld x r0_0 = x := View.ld_unit_zero (Val := Elt Ideal) zeros4 _ x
theorem ld_r0_1 {e : EltTy} (x : S144x6x256x1.Idx → Elt Ideal e) : View.ld x r0_1 = x := View.ld_unit_zero (Val := Elt Ideal) zeros4 _ x
theorem ld_r0_2 {e : EltTy} (x : S144x6x1.Idx → Elt Ideal e) : View.ld x r0_2 = x := View.ld_unit_zero (Val := Elt Ideal) zeros3 _ x
theorem ld_r0_3 {e : EltTy} (x : S144x6x512.Idx → Elt Ideal e) : View.ld x r0_3 = x := View.ld_unit_zero (Val := Elt Ideal) zeros3 _ x

theorem out0_8_eq : out0_8 x0 x1 x2 x3 x4 x5 x6 x7
    = k0_pay7 (k0_pay4 x6) (k0_pay5 x0 x1 x3) (k0_pay6 x0 x1 x2 x6 x7 x5) x4 := by
  unfold out0_8 k0_pay14 k0_pay13
  rw [View.canon_unit_zero zeros4]
  simp only [ld_r0_0, ld_r0_1, ld_r0_2, ld_r0_3]

theorem out0_9_eq : out0_9 x0 x1 x2 x3 x4 x5 x6 x7
    = k0_pay1 (k0_pay8 (k0_pay2 x0 x1) (k0_pay3 x2) (k0_pay4 x6) (k0_pay6 x0 x1 x2 x6 x7 x5)) (k0_pay9 (k0_pay2 x0 x1) (k0_pay3 x2) (k0_pay4 x6) (k0_pay6 x0 x1 x2 x6 x7 x5)) (Scalar.ofBits .f32 0x00000000#32) := by
  unfold out0_9 k0_pay14 k0_pay13 k0_pay12 k0_pay11
  rw [View.canon_unit_zero zeros4]
  simp only [ld_r0_0, ld_r0_1, ld_r0_2, ld_r0_3]

theorem out0_10_eq : out0_10 x0 x1 x2 x3 x4 x5 x6 x7
    = k0_pay10 (k0_pay2 x0 x1) (k0_pay3 x2) (k0_pay4 x6) (k0_pay6 x0 x1 x2 x6 x7 x5) := by
  unfold out0_10 k0_pay14 k0_pay13 k0_pay12 k0_pay11
  rw [View.canon_unit_zero zeros3]
  simp only [ld_r0_0, ld_r0_1, ld_r0_2, ld_r0_3]

end Cert.RefIdeal.Gen

end
-- ==== Proof.RefIdeal.Host.lean ====
/- What the reference prepares before its last step, entry by entry: the normalised key and query, their dot product, the decay,
   the strength, and each sequence's slot of the pool. -/
module

public import proofs.«01_k».proof.Proof.Gen.RefIdeal.Frame
public import proofs.«01_k».proof.Proof.Value.Layer
public import Idealize.ShloMosaic.Lib.StableHlo.Predicate
public import Idealize.ShloMosaic.Lib.Pointwise

@[expose] public section

set_option maxRecDepth 16384

noncomputable section

namespace Cert.RefIdeal.Gen
open Cert.RefIdeal Idealize.ShloMosaic Idealize.ShloMosaic.TcCoe Idealize.ShloMosaic.Tactic Idealize.ShloMosaic.StableHlo Idealize.SL.Sem

/-! ### The operations as functions of the arguments -/

/-- Each row over its length. -/
def unitRows (x : FVec Ideal S144x1x6x256 .bf16) : FVec Ideal S144x6x256 .f32 :=
  mulf (extf .f32 (shapeCast S144x6x256 x shapeCasts_S144x1x6x256_S144x6x256) bitsLt_bf16_f32)
    (broadcastInDim S144x6x256 ![0, 1, 2] bcast_S144x6x1_S144x6x256_0_1_2 (Host.rsqrt (addf
      (broadcastInDim S144x6x1 ![0, 1] bcast_S144x6_S144x6x1_0_1 (Host.reduceAdd
        (mulf (extf .f32 (shapeCast S144x6x256 x shapeCasts_S144x1x6x256_S144x6x256) bitsLt_bf16_f32)
          (extf .f32 (shapeCast S144x6x256 x shapeCasts_S144x1x6x256_S144x6x256) bitsLt_bf16_f32))
        (constant S_ .f32 0x00000000#32) reducesTo_S144x6x256_S144x6_d2 h_S_))
      (broadcastInDim S144x6x1 ![] bcast_S_S144x6x1 (constant S_ .f32 0x358637BD#32)))))

/-- The keys. -/
def keys (x : FVec Ideal S144x1x6x256 .bf16) : FVec Ideal S144x6x256 .bf16 :=
  truncf .bf16 (unitRows x) bitsLt_bf16_f32

/-- The queries. -/
def queries (x : FVec Ideal S144x1x6x256 .bf16) : FVec Ideal S144x6x256 .bf16 :=
  truncf .bf16 (mulf (unitRows x) (broadcastInDim S144x6x256 ![] bcast_S_S144x6x256 (constant S_ .f32 0x3D800000#32))) bitsLt_bf16_f32

/-- The dot products of queries and keys. -/
def dots (x y : FVec Ideal S144x1x6x256 .bf16) : FVec Ideal S144x6 .f32 :=
  Host.reduceAdd (mulf (extf .f32 (queries x) bitsLt_bf16_f32) (extf .f32 (keys y) bitsLt_bf16_f32))
    (constant S_ .f32 0x00000000#32) reducesTo_S144x6x256_S144x6_d2 h_S_

/-- The slots, a negative one counted from the pool's end. -/
def slots (w : IVec S144 32) : IVec S144x1 32 :=
  broadcastInDim S144x1 ![0] bcast_S144_S144x1_0
    (select (cmpi .slt w (broadcastInDim S144 ![] bcast_S_S144 (constantI S_ 32 0#32)))
      (addi w (broadcastInDim S144 ![] bcast_S_S144 (constantI S_ 32 180#32))) w)

variable (m : (ℓ : Loc nD τ sig) → Buf (Elt Ideal) ℓ) (c : Dev nD)

theorem V_codes : V m c main_v34 = Host.gather gather_S180x6x256x512_S144x1_S144x6x256x512_123_0_n_n_0_1_16256512
    (m ((c : Thread nD τ).loc main_arg5) : S180x6x256x512.Idx → EReal) (slots (m ((c : Thread nD τ).loc main_arg7))) := by
  unfold_abbrev_sides; after_results; rfl

theorem V_scales : V m c main_v44 = broadcastInDim S144x6x256x1 ![0, 1, 2] bcast_S144x6x256_S144x6x256x1_0_1_2
    (Host.gather gather_S180x6x256_S144x1_S144x6x256_12_0_n_n_0_1_16256
      (m ((c : Thread nD τ).loc main_arg6) : S180x6x256.Idx → EReal) (slots (m ((c : Thread nD τ).loc main_arg7)))) := by
  unfold_abbrev_sides; after_results; rfl

theorem V_keys : V m c main_v45 = broadcastInDim S144x6x256x1 ![0, 1, 2] bcast_S144x6x256_S144x6x256x1_0_1_2
    (keys (m ((c : Thread nD τ).loc main_arg1))) := by
  unfold_abbrev_sides; after_results; rfl

theorem V_queries : V m c main_v46 = broadcastInDim S144x6x256x1 ![0, 1, 2] bcast_S144x6x256_S144x6x256x1_0_1_2
    (queries (m ((c : Thread nD τ).loc main_arg0))) := by
  unfold_abbrev_sides; after_results; rfl

theorem V_dots : V m c main_v47 = broadcastInDim S144x6x1 ![0, 1] bcast_S144x6_S144x6x1_0_1
    (dots (m ((c : Thread nD τ).loc main_arg0)) (m ((c : Thread nD τ).loc main_arg1))) := by
  unfold_abbrev_sides; after_results; rfl

theorem V_values : V m c main_v48 = shapeCast S144x6x512 (m ((c : Thread nD τ).loc main_arg2) : S144x1x6x512.Idx → EReal) shapeCasts_S144x1x6x512_S144x6x512 := by
  unfold_abbrev_sides; after_results; rfl

theorem V_decay : V m c main_v49 = broadcastInDim S144x6x1 ![0, 1] bcast_S144x6_S144x6x1_0_1
    (Host.exp (F := Ideal) (φ := .f32) (shapeCast S144x6 (m ((c : Thread nD τ).loc main_arg3) : S144x1x6.Idx → EReal) shapeCasts_S144x1x6_S144x6)) := by
  unfold_abbrev_sides; after_results; rfl

theorem V_strength : V m c main_v51 = broadcastInDim S144x6x1 ![0, 1] bcast_S144x6_S144x6x1_0_1
    (shapeCast S144x6 (m ((c : Thread nD τ).loc main_arg4) : S144x1x6.Idx → EReal) shapeCasts_S144x1x6_S144x6) := by
  unfold_abbrev_sides; after_results; rfl

/-! ### Entry by entry -/

section
variable (b : Fin 144) (h : Fin 6) (i : Fin 256) (j : Fin 512)

theorem unitRows_entry (x : FVec Ideal S144x1x6x256 .bf16) :
    unitRows x (ix3 b h i) = Step.unit (fun i => x (ix4 b 0 h i)) i := by
  pointwise [unitRows]; rfl

theorem keys_entry (x : FVec Ideal S144x1x6x256 .bf16) :
    keys x (ix3 b h i) = Step.unit (fun i => x (ix4 b 0 h i)) i :=
  unitRows_entry b h i x

theorem queries_entry (x : FVec Ideal S144x1x6x256 .bf16) :
    queries x (ix3 b h i) = Step.query (fun i => x (ix4 b 0 h i)) i := by
  have e : queries x (ix3 b h i) = unitRows x (ix3 b h i) * Ideal.ofBits .f32 0x3D800000#32 := by pointwise [queries]
  rw [e, unitRows_entry]; rfl

theorem dots_entry (x y : FVec Ideal S144x1x6x256 .bf16) :
    dots x y (ix2 b h) = ∑ i : Fin 256, Step.query (fun i => x (ix4 b 0 h i)) i * Step.unit (fun i => y (ix4 b 0 h i)) i := by
  have e : dots x y (ix2 b h) = ∑ i : Fin 256, queries x (ix3 b h i) * keys y (ix3 b h i) := by pointwise [dots]
  rw [e]
  exact Finset.sum_congr rfl fun i _ => by rw [queries_entry, keys_entry]

/-- A slot in the pool is taken as it is. -/
theorem slots_entry (w : IVec S144 32) (hw : (w (ix1 b)).toNat < 180) : slots w (ix2 b 0) = w (ix1 b) := by
  have e : slots w (ix2 b 0) = Scalar.select (IntOp.cmpi .slt (w (ix1 b)) 0#32) (IntOp.addi (w (ix1 b)) 180#32) (w (ix1 b)) := by
    pointwise [slots]
  rw [e]
  have h0 : IntOp.cmpi .slt (w (ix1 b)) 0#32 = 0#1 := by
    generalize w (ix1 b) = z at hw
    have : ¬ z.slt 0#32 := by
      simp only [BitVec.slt, BitVec.toInt_eq_toNat_cond, decide_eq_true_eq]
      simp; omega
    simp [IntOp.cmpi, this]
  rw [h0]; rfl

/-- A signed reading of a slot in the pool, held to the pool, is the slot. -/
theorem slot_clamped (w : BitVec 32) (hw : w.toNat < 180) : min w.toInt.toNat (180 - 1) = (Layer.slot w).val := by
  have : w.toInt = w.toNat := by rw [BitVec.toInt_eq_toNat_cond, if_pos (by omega)]
  rw [this, Int.toNat_natCast]
  show min w.toNat 179 = w.toNat % 180
  omega

theorem gatherCodes_entry (x : S180x6x256x512.Idx → EReal) (w : IVec S144 32) (hw : (w (ix1 b)).toNat < 180) :
    Host.gather gather_S180x6x256x512_S144x1_S144x6x256x512_123_0_n_n_0_1_16256512 x (slots w) (ix4 b h i j)
      = x (ix4 (Layer.slot (w (ix1 b))) h i j) := by
  unfold Host.gather
  refine congrArg x (funext fun a => Fin.ext ?_)
  match a with
  | ⟨0, _⟩ =>
    refine Eq.trans ?_ (slot_clamped _ hw)
    rw [← slots_entry b w hw]
    show min (slots w _).toInt.toNat 179 + 0 + 0 = min (slots w (ix2 b 0)).toInt.toNat 179
    refine congrArg (fun z => min (slots w z).toInt.toNat 179) (funext fun d => Fin.ext ?_)
    match d with
    | ⟨0, _⟩ => rfl
    | ⟨1, _⟩ => rfl
  | ⟨1, _⟩ => show 0 + 0 + h.val = h.val; omega
  | ⟨2, _⟩ => show 0 + 0 + i.val = i.val; omega
  | ⟨3, _⟩ => show 0 + 0 + j.val = j.val; omega

theorem gatherScales_entry (x : S180x6x256.Idx → EReal) (w : IVec S144 32) (hw : (w (ix1 b)).toNat < 180) :
    Host.gather gather_S180x6x256_S144x1_S144x6x256_12_0_n_n_0_1_16256 x (slots w) (ix3 b h i)
      = x (ix3 (Layer.slot (w (ix1 b))) h i) := by
  unfold Host.gather
  refine congrArg x (funext fun a => Fin.ext ?_)
  match a with
  | ⟨0, _⟩ =>
    refine Eq.trans ?_ (slot_clamped _ hw)
    rw [← slots_entry b w hw]
    show min (slots w _).toInt.toNat 179 + 0 + 0 = min (slots w (ix2 b 0)).toInt.toNat 179
    refine congrArg (fun z => min (slots w z).toInt.toNat 179) (funext fun d => Fin.ext ?_)
    match d with
    | ⟨0, _⟩ => rfl
    | ⟨1, _⟩ => rfl
  | ⟨1, _⟩ => show 0 + 0 + h.val = h.val; omega
  | ⟨2, _⟩ => show 0 + 0 + i.val = i.val; omega

/-- A column appended to a matrix of rows. -/
theorem column4_entry {e : EltTy} (x : S144x6x256.Idx → Elt Ideal e) :
    broadcastInDim S144x6x256x1 ![0, 1, 2] bcast_S144x6x256_S144x6x256x1_0_1_2 x (ix4 b h i 0) = x (ix3 b h i) := by
  pointwise []

theorem column3_entry (x : S144x6.Idx → EReal) :
    broadcastInDim S144x6x1 ![0, 1] bcast_S144x6_S144x6x1_0_1 x (ix3 b h 0) = x (ix2 b h) := by
  pointwise []

theorem rows_entry (x : FVec Ideal S144x1x6 .f32) : shapeCast S144x6 x shapeCasts_S144x1x6_S144x6 (ix2 b h) = x (ix3 b 0 h) := by
  pointwise []

theorem expRows_entry (x : FVec Ideal S144x1x6 .f32) :
    Host.exp (shapeCast S144x6 x shapeCasts_S144x1x6_S144x6) (ix2 b h) = Ideal.exp (x (ix3 b 0 h)) := by
  pointwise []

theorem valueRows_entry (x : FVec Ideal S144x1x6x512 .bf16) :
    shapeCast S144x6x512 x shapeCasts_S144x1x6x512_S144x6x512 (ix3 b h j) = x (ix4 b 0 h j) := by
  pointwise []

end

end Cert.RefIdeal.Gen

end
-- ==== Proof.RefIdeal.Final.lean ====
/- The reference's results after the run, entry by entry: the layer's. -/
module

public import proofs.«01_k».proof.Proof.RefIdeal.Entries
public import proofs.«01_k».proof.Proof.RefIdeal.Host
public import Idealize.ShloMosaic.Lib.Pipeline.ValueKit.Geometry

@[expose] public section

set_option maxRecDepth 16384

noncomputable section

namespace Cert.RefIdeal.Gen
open Cert.RefIdeal Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The arguments, coordinate by coordinate. -/
abbrev argQ (b : Fin 144) (h : Fin 6) (i : Fin 256) : EReal := (m ((c.tc : Thread nD τ).loc main_arg0) : S144x1x6x256.Idx → EReal) (ix4 b (0 : Fin 1) h i)
abbrev argK (b : Fin 144) (h : Fin 6) (i : Fin 256) : EReal := (m ((c.tc : Thread nD τ).loc main_arg1) : S144x1x6x256.Idx → EReal) (ix4 b (0 : Fin 1) h i)
abbrev argV (b : Fin 144) (h : Fin 6) (j : Fin 512) : EReal := (m ((c.tc : Thread nD τ).loc main_arg2) : S144x1x6x512.Idx → EReal) (ix4 b (0 : Fin 1) h j)
abbrev argG (b : Fin 144) (h : Fin 6) : EReal := (m ((c.tc : Thread nD τ).loc main_arg3) : S144x1x6.Idx → EReal) (ix3 b (0 : Fin 1) h)
abbrev argB (b : Fin 144) (h : Fin 6) : EReal := (m ((c.tc : Thread nD τ).loc main_arg4) : S144x1x6.Idx → EReal) (ix3 b (0 : Fin 1) h)
abbrev argC (s : Fin 180) (h : Fin 6) (i : Fin 256) (j : Fin 512) : EReal := (m ((c.tc : Thread nD τ).loc main_arg5) : S180x6x256x512.Idx → EReal) (ix4 s h i j)
abbrev argS (s : Fin 180) (h : Fin 6) (i : Fin 256) : EReal := (m ((c.tc : Thread nD τ).loc main_arg6) : S180x6x256.Idx → EReal) (ix3 s h i)
abbrev argW (b : Fin 144) : BitVec 32 := (m ((c.tc : Thread nD τ).loc main_arg7) : S144.Idx → BitVec 32) (ix1 b)

/-- Every slot number is below 180. -/
abbrev Below : Prop := ∀ b : Fin 144, (argW m c b).toNat < 180

/-! ### The last step's operands -/

/-- The one grid point. -/
abbrev pt : Fin cfg0.N := (0 : Fin 1)

theorem block0 : (iblk m c 0 pt : S144x6x256x512.Idx → EReal) = V m c main_v34 := by
  funext x; exact congrArg (V m c main_v34) (funext fun a => Fin.ext (by show 0 * _ + 1 * (x a).val = (x a).val; omega))
theorem block1 : (iblk m c 1 pt : S144x6x256x1.Idx → EReal) = V m c main_v44 := by
  funext x; exact congrArg (V m c main_v44) (funext fun a => Fin.ext (by show 0 * _ + 1 * (x a).val = (x a).val; omega))
theorem block2 : (iblk m c 2 pt : S144x6x256x1.Idx → EReal) = V m c main_v45 := by
  funext x; exact congrArg (V m c main_v45) (funext fun a => Fin.ext (by show 0 * _ + 1 * (x a).val = (x a).val; omega))
theorem block3 : (iblk m c 3 pt : S144x6x256x1.Idx → EReal) = V m c main_v46 := by
  funext x; exact congrArg (V m c main_v46) (funext fun a => Fin.ext (by show 0 * _ + 1 * (x a).val = (x a).val; omega))
theorem block4 : (iblk m c 4 pt : S144x6x1.Idx → EReal) = V m c main_v47 := by
  funext x; exact congrArg (V m c main_v47) (funext fun a => Fin.ext (by show 0 * _ + 1 * (x a).val = (x a).val; omega))
theorem block5 : (iblk m c 5 pt : S144x6x512.Idx → EReal) = V m c main_v48 := by
  funext x; exact congrArg (V m c main_v48) (funext fun a => Fin.ext (by show 0 * _ + 1 * (x a).val = (x a).val; omega))
theorem block6 : (iblk m c 6 pt : S144x6x1.Idx → EReal) = V m c main_v49 := by
  funext x; exact congrArg (V m c main_v49) (funext fun a => Fin.ext (by show 0 * _ + 1 * (x a).val = (x a).val; omega))
theorem block7 : (iblk m c 7 pt : S144x6x1.Idx → EReal) = V m c main_v51 := by
  funext x; exact congrArg (V m c main_v51) (funext fun a => Fin.ext (by show 0 * _ + 1 * (x a).val = (x a).val; omega))

section
variable (b : Fin 144) (h : Fin 6) (i : Fin 256) (j : Fin 512)

theorem iblk0 (hs : Below m c) : (iblk m c 0 pt : S144x6x256x512.Idx → EReal) (ix4 b h i j) = argC m c (Layer.slot (argW m c b)) h i j := by
  rw [block0, V_codes]; exact gatherCodes_entry b h i j _ _ (hs b)
theorem iblk1 (hs : Below m c) : (iblk m c 1 pt : S144x6x256x1.Idx → EReal) (ix4 b h i 0) = argS m c (Layer.slot (argW m c b)) h i := by
  rw [block1, V_scales]; exact (column4_entry (e := .f32) b h i _).trans (gatherScales_entry b h i _ _ (hs b))
theorem iblk2 : (iblk m c 2 pt : S144x6x256x1.Idx → EReal) (ix4 b h i 0) = Step.unit (argK m c b h) i := by
  rw [block2, V_keys]; exact (column4_entry (e := .bf16) b h i _).trans (keys_entry b h i _)
theorem iblk3 : (iblk m c 3 pt : S144x6x256x1.Idx → EReal) (ix4 b h i 0) = Step.query (argQ m c b h) i := by
  rw [block3, V_queries]; exact (column4_entry (e := .bf16) b h i _).trans (queries_entry b h i _)
theorem iblk4 : (iblk m c 4 pt : S144x6x1.Idx → EReal) (ix3 b h 0) = ∑ i : Fin 256, Step.query (argQ m c b h) i * Step.unit (argK m c b h) i := by
  rw [block4, V_dots]; exact (column3_entry b h _).trans (dots_entry b h _ _)
theorem iblk5 : (iblk m c 5 pt : S144x6x512.Idx → EReal) (ix3 b h j) = argV m c b h j := by
  rw [block5, V_values]; exact valueRows_entry b h j _
theorem iblk6 : (iblk m c 6 pt : S144x6x1.Idx → EReal) (ix3 b h 0) = Ideal.exp (argG m c b h) := by
  rw [block6, V_decay]; exact (column3_entry b h _).trans (expRows_entry b h _)
theorem iblk7 : (iblk m c 7 pt : S144x6x1.Idx → EReal) (ix3 b h 0) = argB m c b h := by
  rw [block7, V_strength]; exact (column3_entry b h _).trans (rows_entry b h _)

/-! ### The results -/

/-- What is written along the key. -/
theorem delta_step (hs : Below m c) :
    k0_pay6 (iblk m c 0 pt) (iblk m c 1 pt) (iblk m c 2 pt) (iblk m c 6 pt) (iblk m c 7 pt) (iblk m c 5 pt) (ix3 b h j)
      = Step.delta (argK m c b h) (argV m c b h) (argG m c b h) (argB m c b h) (argC m c (Layer.slot (argW m c b)) h) (argS m c (Layer.slot (argW m c b)) h) j := by
  refine (delta_entry _ _ _ _ _ _ b h j).trans ?_
  rw [iblk5, iblk6, iblk7]
  unfold Step.delta Step.old
  exact congrArg (fun z => _ * (_ - _ * z)) (Finset.sum_congr rfl fun i _ => by rw [iblk0 m c b h i j hs, iblk1 m c b h i hs, iblk2])

theorem output_step (hs : Below m c) :
    k0_pay7 (k0_pay4 (iblk m c 6 pt)) (k0_pay5 (iblk m c 0 pt) (iblk m c 1 pt) (iblk m c 3 pt))
        (k0_pay6 (iblk m c 0 pt) (iblk m c 1 pt) (iblk m c 2 pt) (iblk m c 6 pt) (iblk m c 7 pt) (iblk m c 5 pt)) (iblk m c 4 pt) (ix4 b 0 h j)
      = Layer.out (argQ m c) (argK m c) (argV m c) (argG m c) (argB m c) (argC m c) (argS m c) (argW m c) b h j := by
  refine (output_entry _ b h j _ _ _).trans ?_
  rw [delta_step m c b h j hs, iblk4]
  refine congrArg (fun z => z + _) ?_
  refine congrArg₂ (fun z w => z * w) ((decay_entry _ b h).trans (iblk6 m c b h)) ((queryProduct_entry _ _ _ b h j).trans ?_)
  exact Finset.sum_congr rfl fun i _ => by rw [iblk0 m c b h i j hs, iblk1 m c b h i hs, iblk3]; rfl

/-- The new state, before it is quantised. -/
abbrev newState : FVec Ideal S144x6x256x512 .f32 :=
  k0_pay8 (k0_pay2 (iblk m c 0 pt) (iblk m c 1 pt)) (k0_pay3 (iblk m c 2 pt)) (k0_pay4 (iblk m c 6 pt))
    (k0_pay6 (iblk m c 0 pt) (iblk m c 1 pt) (iblk m c 2 pt) (iblk m c 6 pt) (iblk m c 7 pt) (iblk m c 5 pt))

theorem state_step (hs : Below m c) : newState m c (ix4 b h i j)
    = Layer.state (argK m c) (argV m c) (argG m c) (argB m c) (argC m c) (argS m c) (argW m c) b h i j := by
  refine (state_entry b h i j _ _ _ _).trans ?_
  rw [delta_step m c b h j hs]
  refine congrArg₂ (fun z w => z + w) (congrArg₂ (fun z w => z * w) ((decay_entry _ b h).trans (iblk6 m c b h)) ((old_entry _ _ b h i j).trans ?_))
    (congrArg (fun z => z * _) ((key_entry _ b h i).trans (iblk2 m c b h i)))
  rw [iblk0 m c b h i j hs, iblk1 m c b h i hs]; rfl

end

/-- The output array. -/
def G8 : Buf (Elt Ideal) ((c.tc : Thread nD τ).loc main_v52_0) := fun y : S144x1x6x512.Idx =>
  Layer.out (argQ m c) (argK m c) (argV m c) (argG m c) (argB m c) (argC m c) (argS m c) (argW m c) (y 0) (y 2) (y 3)

/-- The new codes' array. -/
def G9 : Buf (Elt Ideal) ((c.tc : Thread nD τ).loc main_v52_1) := fun y : S144x6x256x512.Idx =>
  Layer.code (argK m c) (argV m c) (argG m c) (argB m c) (argC m c) (argS m c) (argW m c) (y 0) (y 1) (y 2) (y 3)

/-- The new scales' array. -/
def G10 : Buf (Elt Ideal) ((c.tc : Thread nD τ).loc main_v52_2) := fun y : S144x6x256.Idx =>
  Layer.scale (argK m c) (argV m c) (argG m c) (argB m c) (argC m c) (argS m c) (argW m c) (y 0) (y 1) (y 2)

theorem point8 (hs : Below m c) (y : S144x1x6x512.Idx) : out0_8 (iblk m c 0 pt) (iblk m c 1 pt) (iblk m c 2 pt) (iblk m c 3 pt) (iblk m c 4 pt) (iblk m c 5 pt) (iblk m c 6 pt) (iblk m c 7 pt) y = G8 m c y := by
  idx_vars y
  obtain rfl : y1 = 0 := Subsingleton.elim _ _
  rw [out0_8_eq]
  exact output_step m c y0 y2 y3 hs

theorem point9 (hs : Below m c) (y : S144x6x256x512.Idx) : out0_9 (iblk m c 0 pt) (iblk m c 1 pt) (iblk m c 2 pt) (iblk m c 3 pt) (iblk m c 4 pt) (iblk m c 5 pt) (iblk m c 6 pt) (iblk m c 7 pt) y = G9 m c y := by
  idx_vars y
  rw [out0_9_eq]
  refine (code_entry y0 y1 y2 y3 _ _ _ _).trans ?_
  exact congrArg (fun s => Step.code s y3) (funext fun j => state_step m c y0 y1 y2 j hs)

theorem point10 (hs : Below m c) (y : S144x6x256.Idx) : out0_10 (iblk m c 0 pt) (iblk m c 1 pt) (iblk m c 2 pt) (iblk m c 3 pt) (iblk m c 4 pt) (iblk m c 5 pt) (iblk m c 6 pt) (iblk m c 7 pt) y = G10 m c y := by
  idx_vars y
  rw [out0_10_eq]
  refine (scale_entry y0 y1 y2 _ _ _ _).trans ?_
  exact congrArg Step.scale (funext fun j => state_step m c y0 y1 y2 j hs)

theorem whole8 : (cfg0.win 8).WholeAt pt := by decide +kernel
theorem whole9 : (cfg0.win 9).WholeAt pt := by decide +kernel
theorem whole10 : (cfg0.win 10).WholeAt pt := by decide +kernel

theorem final8 (hs : Below m c) : (dats m 0 c).arrAt 8 cfg0.N = G8 m c :=
  (dats m 0 c).arrAt_eq_of_after_last 8 pt whole8 (G8 m c) fun y =>
    (congrFun (after0_8 m c pt) y).trans (point8 m c hs y)

theorem final9 (hs : Below m c) : (dats m 0 c).arrAt 9 cfg0.N = G9 m c :=
  (dats m 0 c).arrAt_eq_of_after_last 9 pt whole9 (G9 m c) fun y =>
    (congrFun (after0_9 m c pt) y).trans (point9 m c hs y)

theorem final10 (hs : Below m c) : (dats m 0 c).arrAt 10 cfg0.N = G10 m c :=
  (dats m 0 c).arrAt_eq_of_after_last 10 pt whole10 (G10 m c) fun y =>
    (congrFun (after0_10 m c pt) y).trans (point10 m c hs y)

/-- Every run ends with the three results at the layer's, and the arguments as they were. -/
theorem run (hs : ∀ c, Below m c) : θ_run defs (onTc (τ := τ) (main (F := Ideal))) ⟨m, fun _ => 0, ρ⟩ (fun r => ∀ c : Dev nD,
      r.2.mem ((c.tc : Thread nD τ).loc main_v52_0) = G8 m c
      ∧ r.2.mem ((c.tc : Thread nD τ).loc main_v52_1) = G9 m c
      ∧ r.2.mem ((c.tc : Thread nD τ).loc main_v52_2) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 8).trans (final8 m c (hs c)), ((h.1 c).1 9).trans (final9 m c (hs c)),
      ((h.1 c).1 10).trans (final10 m c (hs c)), h.2 c⟩)
    (θ_run_and (run_main m ρ) (unchanged m ρ))

end Cert.RefIdeal.Gen

end
-- ==== Proof.lean ====
/- The certificate: both programs' frames under `slots_in_range`, the reference's frame, and the algebraic claim on all three results. -/
module

public import proofs.«01_k».proof.Defs
public import proofs.«01_k».proof.Proof.Slots
public import proofs.«01_k».proof.Proof.Kernel.Frame
public import proofs.«01_k».proof.Proof.Kernel.Ok
public import proofs.«01_k».proof.Proof.KernelIdeal.Ok
public import proofs.«01_k».proof.Proof.KernelIdeal.Final
public import proofs.«01_k».proof.Proof.RefIdeal.Final

@[expose] public section

noncomputable section

namespace Cert.Proof

open Idealize.ShloMosaic Idealize.SL.Sem

/-- From equal arguments with every slot in the pool, the kernel and the reference end with the same three results. -/
theorem algebraic : Cert.algebraic_KernelIdeal_RefIdeal (hKernelIdeal := Cert.KernelIdeal.Gen.facts) (hRefIdeal := Cert.RefIdeal.Gen.facts)
    (hPre_slots_in_range := Cert.Pre_slots_in_range.Gen.facts) := by
  intro m g m' g' hpre hargs
  have hlt : ∀ x, ((m ((((0 : Dev Cert.KernelIdeal.nD)).tc : Thread Cert.KernelIdeal.nD Cert.KernelIdeal.τ).loc Cert.KernelIdeal.main_arg7) : Cert.KernelIdeal.S144.Idx → BitVec 32) x).toNat < 180 :=
    fun x => Cert.Slots.lt_of_pre _ _ _ _ _ _ _ _ (hpre 0) x
  have hO := Cert.KernelIdeal.Gen.ok_of_slots m hlt
  have hargs' := hargs 0
  obtain ⟨h0, h1, h2, h3, h4, h5, h6, h7⟩ := hargs'
  have hq : Cert.RefIdeal.Gen.argQ m' 0 = Cert.KernelIdeal.Val.argQ m 0 := funext fun b => funext fun h => funext fun i => congrFun h0 (ix4 b (0 : Fin 1) h i)
  have hk : Cert.RefIdeal.Gen.argK m' 0 = Cert.KernelIdeal.Val.argK m 0 := funext fun b => funext fun h => funext fun i => congrFun h1 (ix4 b (0 : Fin 1) h i)
  have hv : Cert.RefIdeal.Gen.argV m' 0 = Cert.KernelIdeal.Val.argV m 0 := funext fun b => funext fun h => funext fun j => congrFun h2 (ix4 b (0 : Fin 1) h j)
  have hg : Cert.RefIdeal.Gen.argG m' 0 = Cert.KernelIdeal.Val.argG m 0 := funext fun b => funext fun h => congrFun h3 (ix3 b (0 : Fin 1) h)
  have hb : Cert.RefIdeal.Gen.argB m' 0 = Cert.KernelIdeal.Val.argB m 0 := funext fun b => funext fun h => congrFun h4 (ix3 b (0 : Fin 1) h)
  have hc : Cert.RefIdeal.Gen.argC m' 0 = Cert.KernelIdeal.Val.argC m 0 := funext fun s => funext fun h => funext fun i => funext fun j => congrFun h5 (ix4 s h i j)
  have hs : Cert.RefIdeal.Gen.argS m' 0 = Cert.KernelIdeal.Val.argS m 0 := funext fun s => funext fun h => funext fun i => congrFun h6 (ix3 s h i)
  have hw : Cert.RefIdeal.Gen.argW m' 0 = Cert.KernelIdeal.Val.argW m 0 := funext fun b => congrFun h7 (ix1 b)
  have hlt' : ∀ c, Cert.RefIdeal.Gen.Below m' c := fun c b => by
    obtain rfl : c = 0 := Subsingleton.elim _ _
    rw [hw]; exact hlt (ix1 b)
  refine ⟨Cert.KernelIdeal.Val.G7 m, Cert.KernelIdeal.Val.G8 m, Cert.KernelIdeal.Val.G9 m, Cert.KernelIdeal.Val.run m g hlt hO, ?_⟩
  refine (θ_run Cert.RefIdeal.defs _ _).mono (fun r hr c => ?_) (Cert.RefIdeal.Gen.run m' g' hlt')
  obtain rfl : c = 0 := Subsingleton.elim _ _
  have e0 : Cert.RefIdeal.Gen.G8 m' 0 = Cert.KernelIdeal.Val.G7 m 0 := by
    unfold Cert.RefIdeal.Gen.G8 Cert.KernelIdeal.Val.G7; rw [hq, hk, hv, hg, hb, hc, hs, hw]
  have e1 : Cert.RefIdeal.Gen.G9 m' 0 = Cert.KernelIdeal.Val.G8 m 0 := by
    unfold Cert.RefIdeal.Gen.G9 Cert.KernelIdeal.Val.G8; rw [hk, hv, hg, hb, hc, hs, hw]
  have e2 : Cert.RefIdeal.Gen.G10 m' 0 = Cert.KernelIdeal.Val.G9 m 0 := by
    unfold Cert.RefIdeal.Gen.G10 Cert.KernelIdeal.Val.G9; rw [hk, hv, hg, hb, hc, hs, hw]
  obtain ⟨r0, r1, r2, rest⟩ := hr 0
  exact ⟨r0.trans e0, r1.trans e1, r2.trans e2, rest⟩

theorem claim : Cert.Claim :=
  ⟨Cert.RefIdeal.Gen.facts, Cert.KernelIdeal.Gen.facts, Cert.Kernel.Gen.facts, Cert.Pre_slots_in_range.Gen.facts,
    fun m ρ _ => Cert.RefIdeal.Gen.frame m ρ,
    fun m ρ _ => Cert.RefIdeal.Gen.frame m ρ,
    fun m ρ h => Cert.KernelIdeal.Gen.frame m ρ (Cert.KernelIdeal.Gen.ok_of_slots m fun x => Cert.Slots.lt_of_pre _ _ _ _ _ _ _ _ (h 0) x),
    fun m ρ h => Cert.Kernel.Gen.frame m ρ (Cert.Kernel.Gen.ok_of_slots m fun x => Cert.Slots.lt_of_pre _ _ _ _ _ _ _ _ (h 0) x),
    algebraic, trivial⟩

end Cert.Proof

end
